-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v20_2)) (v4 : (c : Dev Cert.KernelIdeal.nD) → Buf (Elt Ideal) ((c.tc : Thread Cert.KernelIdeal.nD Cert.KernelIdeal.τ).loc Cert.KernelIdeal.main_v31)) (v5 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v20_2) = v3 c
          ∧ r.2.mem ((c.tc : Thread Cert.KernelIdeal.nD Cert.KernelIdeal.τ).loc Cert.KernelIdeal.main_v31) = v4 c
          ∧ r.2.mem ((c.tc : Thread Cert.KernelIdeal.nD Cert.KernelIdeal.τ).loc Cert.KernelIdeal.main_v20_0) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_v95) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x768 : Shape := ⟨2, ![128, 768]⟩
abbrev S768 : Shape := ⟨1, ![768]⟩
abbrev S4x1024x192 : Shape := ⟨3, ![4, 1024, 192]⟩
abbrev S512x768 : Shape := ⟨2, ![512, 768]⟩
abbrev S_ : Shape := ⟨0, ![]⟩

class Facts : Prop where
  bcast_S_S16384x768 : S_.BroadcastsInDim S16384x768 (![] : Fin 0 → Fin S16384x768.rank)
  bcast_S_S768x512 : S_.BroadcastsInDim S768x512 (![] : Fin 0 → Fin S768x512.rank)
  bcast_S_S512 : S_.BroadcastsInDim S512 (![] : Fin 0 → Fin S512.rank)
  bcast_S_S512x256 : S_.BroadcastsInDim S512x256 (![] : Fin 0 → Fin S512x256.rank)
  bcast_S_S256 : S_.BroadcastsInDim S256 (![] : Fin 0 → Fin S256.rank)
  bcast_S_S256x128 : S_.BroadcastsInDim S256x128 (![] : Fin 0 → Fin S256x128.rank)
  bcast_S_S128 : S_.BroadcastsInDim S128 (![] : Fin 0 → Fin S128.rank)
  bcast_S_S128x768 : S_.BroadcastsInDim S128x768 (![] : Fin 0 → Fin S128x768.rank)
  bcast_S_S768 : S_.BroadcastsInDim S768 (![] : Fin 0 → Fin S768.rank)
  bcast_S_S4x1024x192 : S_.BroadcastsInDim S4x1024x192 (![] : Fin 0 → Fin S4x1024x192.rank)

variable [Facts]

def fn_part1 {F : FTy → Type} [FloatOps F] (main_arg6 : FVec F S128 .f32) (main_arg7 : FVec F S128x768 .f32) (main_arg8 : FVec F S768 .f32) (main_arg9 : FVec F S4x1024x192 .f32) (main_v2 : IVec S16384x768 1) (main_v5 : IVec S768x512 1) (main_v8 : IVec S512 1) (main_v11 : IVec S512x256 1) (main_v14 : IVec S256 1) (main_v17 : IVec S256x128 1) : IVec S16384x768 1 × IVec S768x512 1 × IVec S512 1 × IVec S512x256 1 × IVec S256 1 × IVec S256x128 1 × IVec S128 1 × IVec S128x768 1 × IVec S768 1 × IVec S4x1024x192 1 :=
  let main_v18 : FVec F S128 .f32 := Host.absf main_arg6
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S128x768 .f32 := Host.absf main_arg7
  let main_cst_6 : FVec F S_ .f32 := constant S_ .f32 0x7F800000#32
  let main_v22 : FVec F S128x768 .f32 := broadcastInDim S128x768 ![] bcast_S_S128x768 main_cst_6
  let main_v23 : IVec S128x768 1 := cmpf .olt main_v21 main_v22
  let main_v24 : FVec F S768 .f32 := Host.absf main_arg8
  let main_cst_7 : FVec F S_ .f32 := constant S_ .f32 0x7F800000#32
  let main_v25 : FVec F S768 .f32 := broadcastInDim S768 ![] bcast_S_S768 main_cst_7
  let main_v26 : IVec S768 1 := cmpf .olt main_v24 main_v25
  let main_v27 : FVec F S4x1024x192 .f32 := Host.absf main_arg9
  let main_cst_8 : FVec F S_ .f32 := constant S_ .f32 0x7F800000#32
  let main_v28 : FVec F S4x1024x192 .f32 := broadcastInDim S4x1024x192 ![] bcast_S_S4x1024x192 main_cst_8
  let main_v29 : IVec S4x1024x192 1 := cmpf .olt main_v27 main_v28
  (main_v2, main_v5, main_v8, main_v11, main_v14, main_v17, main_v20, main_v23, main_v26, main_v29)

def fn {F : FTy → Type} [FloatOps F] (main_arg0 : FVec F S16384x768 .f32) (main_arg1 : FVec F S768x512 .f32) (main_arg2 : FVec F S512 .f32) (main_arg3 : FVec F S512x256 .f32) (main_arg4 : FVec F S256 .f32) (main_arg5 : FVec F S256x128 .f32) (main_arg6 : FVec F S128 .f32) (main_arg7 : FVec F S128x768 .f32) (main_arg8 : FVec F S768 .f32) (main_arg9 : FVec F S4x1024x192 .f32) (main_arg10 : FVec F S768x512 .f32) (main_arg11 : FVec F S512 .f32) (main_arg12 : FVec F S512x768 .f32) (main_arg13 : FVec F S768 .f32) : IVec S16384x768 1 × IVec S768x512 1 × IVec S512 1 × IVec S512x256 1 × IVec S256 1 × IVec S256x128 1 × IVec S128 1 × IVec S128x768 1 × IVec S768 1 × IVec S4x1024x192 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256x128 .f32 := Host.absf main_arg5
  let main_cst_4 : FVec F S_ .f32 := constant S_ .f32 0x7F800000#32
  let main_v16 : FVec F S256x128 .f32 := broadcastInDim S256x128 ![] bcast_S_S256x128 main_cst_4
  let main_v17 : IVec S256x128 1 := cmpf .olt main_v15 main_v16
  fn_part1 (F := F) main_arg6 main_arg7 main_arg8 main_arg9 main_v2 main_v5 main_v8 main_v11 main_v14 main_v17
-- ==== Kernel.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x768 : Shape := ⟨2, ![128, 768]⟩
abbrev S768 : Shape := ⟨1, ![768]⟩
abbrev S4x1024x192 : Shape := ⟨3, ![4, 1024, 192]⟩
abbrev S512x768 : Shape := ⟨2, ![512, 768]⟩
abbrev S_ : Shape := ⟨0, ![]⟩
abbrev S128x64 : Shape := ⟨2, ![128, 64]⟩
abbrev S64 : Shape := ⟨1, ![64]⟩
abbrev S128x192 : Shape := ⟨2, ![128, 192]⟩
abbrev S128x1024 : Shape := ⟨2, ![128, 1024]⟩
abbrev S192 : Shape := ⟨1, ![192]⟩
abbrev S1024 : Shape := ⟨1, ![1024]⟩
abbrev S4x1024 : Shape := ⟨2, ![4, 1024]⟩
abbrev S1x512 : Shape := ⟨2, ![1, 512]⟩
abbrev S1x256 : Shape := ⟨2, ![1, 256]⟩
abbrev S1x128 : Shape := ⟨2, ![1, 128]⟩
abbrev S1x1024 : Shape := ⟨2, ![1, 1024]⟩
abbrev S1x768 : Shape := ⟨2, ![1, 768]⟩
abbrev S16384x4 : Shape := ⟨2, ![16384, 4]⟩
abbrev S16x1x2 : Shape := ⟨3, ![16, 1, 2]⟩
abbrev S1024x768 : Shape := ⟨2, ![1024, 768]⟩
abbrev S1024x4 : Shape := ⟨2, ![1024, 4]⟩
abbrev S1x1x2 : Shape := ⟨3, ![1, 1, 2]⟩
abbrev S1024x512 : Shape := ⟨2, ![1024, 512]⟩
abbrev S1024x256 : Shape := ⟨2, ![1024, 256]⟩
abbrev S1024x128 : Shape := ⟨2, ![1024, 128]⟩
abbrev S1024x1024 : Shape := ⟨2, ![1024, 1024]⟩
abbrev S1024x192 : Shape := ⟨2, ![1024, 192]⟩
abbrev S1x1024x192 : Shape := ⟨3, ![1, 1024, 192]⟩
abbrev S1024x1 : Shape := ⟨2, ![1024, 1]⟩
abbrev S1 : Shape := ⟨1, ![1]⟩
abbrev S1x1x1 : Shape := ⟨3, ![1, 1, 1]⟩
abbrev S1x1024x1 : Shape := ⟨3, ![1, 1024, 1]⟩
abbrev S1x1024x768 : Shape := ⟨3, ![1, 1024, 768]⟩
abbrev S2 : Shape := ⟨1, ![2]⟩
abbrev S16x2 : Shape := ⟨2, ![16, 2]⟩
abbrev S16384x4x192 : Shape := ⟨3, ![16384, 4, 192]⟩

abbrev nBuf : Space → Nat
  | .hbm => 56
  | .vmem => 24
  | .smem => 0
  | _ => 0

abbrev bufTy : (tb : Table) → Fin (tcTables nBuf tb) → BufTy
  | .hbm, ⟨0, _⟩ => ⟨S16384x768, .f32⟩
  | .hbm, ⟨1, _⟩ => ⟨S768x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x768, .f32⟩
  | .hbm, ⟨8, _⟩ => ⟨S768, .f32⟩
  | .hbm, ⟨9, _⟩ => ⟨S4x1024x192, .f32⟩
  | .hbm, ⟨10, _⟩ => ⟨S768x512, .f32⟩
  | .hbm, ⟨11, _⟩ => ⟨S512, .f32⟩
  | .hbm, ⟨12, _⟩ => ⟨S512x768, .f32⟩
  | .hbm, ⟨13, _⟩ => ⟨S768, .f32⟩
  | .hbm, ⟨14, _⟩ => ⟨S_, .f32⟩
  | .hbm, ⟨15, _⟩ => ⟨S128x64, .f32⟩
  | .hbm, ⟨16, _⟩ => ⟨S_, .f32⟩
  | .hbm, ⟨17, _⟩ => ⟨S64, .f32⟩
  | .hbm, ⟨18, _⟩ => ⟨S128x192, .f32⟩
  | .hbm, ⟨19, _⟩ => ⟨S128x192, .f32⟩
  | .hbm, ⟨20, _⟩ => ⟨S128x192, .f32⟩
  | .hbm, ⟨21, _⟩ => ⟨S128x192, .f32⟩
  | .hbm, ⟨22, _⟩ => ⟨S128x1024, .f32⟩
  | .hbm, ⟨23, _⟩ => ⟨S192, .f32⟩
  | .hbm, ⟨24, _⟩ => ⟨S192, .f32⟩
  | .hbm, ⟨25, _⟩ => ⟨S192, .f32⟩
  | .hbm, ⟨26, _⟩ => ⟨S192, .f32⟩
  | .hbm, ⟨27, _⟩ => ⟨S1024, .f32⟩
  | .hbm, ⟨28, _⟩ => ⟨S4x1024x192, .f32⟩
  | .hbm, ⟨29, _⟩ => ⟨S_, .f32⟩
  | .hbm, ⟨30, _⟩ => ⟨S4x1024, .f32⟩
  | .hbm, ⟨31, _⟩ => ⟨S1x512, .f32⟩
  | .hbm, ⟨32, _⟩ => ⟨S1x256, .f32⟩
  | .hbm, ⟨33, _⟩ => ⟨S1x128, .f32⟩
  | .hbm, ⟨34, _⟩ => ⟨S1x1024, .f32⟩
  | .hbm, ⟨35, _⟩ => ⟨S1x512, .f32⟩
  | .hbm, ⟨36, _⟩ => ⟨S1x768, .f32⟩
  | .hbm, ⟨37, _⟩ => ⟨S16384x768, .f32⟩
  | .hbm, ⟨38, _⟩ => ⟨S16384x768, .f32⟩
  | .hbm, ⟨39, _⟩ => ⟨S16384x4, .i32⟩
  | .hbm, ⟨40, _⟩ => ⟨S16x1x2, .f32⟩
  | .hbm, ⟨41, _⟩ => ⟨S16x2, .f32⟩
  | .hbm, ⟨42, _⟩ => ⟨S_, .f32⟩
  | .hbm, ⟨43, _⟩ => ⟨S2, .f32⟩
  | .hbm, ⟨44, _⟩ => ⟨S1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16384x4x192, .f32⟩
  | .local _ .vmem, ⟨0, _⟩ => ⟨S1024x768, .f32⟩
  | .local _ .vmem, ⟨1, _⟩ => ⟨S1024x768, .f32⟩
  | .local _ .vmem, ⟨2, _⟩ => ⟨S768x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S128x1024, .f32⟩
  | .local _ .vmem, ⟨9, _⟩ => ⟨S1x1024, .f32⟩
  | .local _ .vmem, ⟨10, _⟩ => ⟨S4x1024x192, .f32⟩
  | .local _ .vmem, ⟨11, _⟩ => ⟨S4x1024, .f32⟩
  | .local _ .vmem, ⟨12, _⟩ => ⟨S768x512, .f32⟩
  | .local _ .vmem, ⟨13, _⟩ => ⟨S1x512, .f32⟩
  | .local _ .vmem, ⟨14, _⟩ => ⟨S512x768, .f32⟩
  | .local _ .vmem, ⟨15, _⟩ => ⟨S1x768, .f32⟩
  | .local _ .vmem, ⟨16, _⟩ => ⟨S1024x768, .f32⟩
  | .local _ .vmem, ⟨17, _⟩ => ⟨S1024x768, .f32⟩
  | .local _ .vmem, ⟨18, _⟩ => ⟨S1024x768, .f32⟩
  | .local _ .vmem, ⟨19, _⟩ => ⟨S1024x768, .f32⟩
  | .local _ .vmem, ⟨20, _⟩ => ⟨S1024x4, .i32⟩
  | .local _ .vmem, ⟨21, _⟩ => ⟨S1024x4, .i32⟩
  | .local _ .vmem, ⟨22, _⟩ => ⟨S1x1x2, .f32⟩
  | .local _ .vmem, ⟨23, _⟩ => ⟨S1x1x2, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_v20_3 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x4 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x2 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x768 : Shape := ⟨2, ![128, 768]⟩
abbrev S768 : Shape := ⟨1, ![768]⟩
abbrev S4x1024x192 : Shape := ⟨3, ![4, 1024, 192]⟩
abbrev S512x768 : Shape := ⟨2, ![512, 768]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S1x768 : Shape := ⟨2, ![1, 768]⟩
abbrev S16384x4x192 : Shape := ⟨3, ![16384, 4, 192]⟩
abbrev S16384x4 : Shape := ⟨2, ![16384, 4]⟩
abbrev S16384x4x1 : Shape := ⟨3, ![16384, 4, 1]⟩
abbrev S4x1024 : Shape := ⟨2, ![4, 1024]⟩
abbrev S1x4x1024 : Shape := ⟨3, ![1, 4, 1024]⟩
abbrev S16384x4x1024 : Shape := ⟨3, ![16384, 4, 1024]⟩
abbrev S4x1024x16384 : Shape := ⟨3, ![4, 1024, 16384]⟩
abbrev S1x1024x192 : Shape := ⟨3, ![1, 1024, 192]⟩
abbrev S1024x192 : Shape := ⟨2, ![1024, 192]⟩
abbrev S16384x1 : Shape := ⟨2, ![16384, 1]⟩
abbrev S16384 : Shape := ⟨1, ![16384]⟩
abbrev S16384x192 : Shape := ⟨2, ![16384, 192]⟩
abbrev S16384x1x192 : Shape := ⟨3, ![16384, 1, 192]⟩

abbrev nBuf : Space → Nat
  | .hbm => 223
  | .vmem => 0
  | .smem => 0
  | _ => 0

abbrev hbmTy0_0 (i : Nat) : BufTy := match i % 128 with
  | 0 => ⟨S16384x768, .f32⟩
  | 1 => ⟨S768x512, .f32⟩
  | 2 => ⟨S512, .f32⟩
  | 3 => ⟨S512x256, .f32⟩
  | 4 => ⟨S256, .f32⟩
  | 5 => ⟨S256x128, .f32⟩
  | 6 => ⟨S128, .f32⟩
  | 7 => ⟨S128x768, .f32⟩
  | 8 => ⟨S768, .f32⟩
  | 9 => ⟨S4x1024x192, .f32⟩
  | 10 => ⟨S768x512, .f32⟩
  | 11 => ⟨S512, .f32⟩
  | 12 => ⟨S512x768, .f32⟩
  | 13 => ⟨S768, .f32⟩
  | 14 => ⟨S16384x512, .f32⟩
  | 15 => ⟨S1x512, .f32⟩
  | 16 => ⟨S16384x512, .f32⟩
  | 17 => ⟨S16384x512, .f32⟩
  | 18 => ⟨S_, .f32⟩
  | 19 => ⟨S16384x512, .f32⟩
  | 20 => ⟨S16384x512, .f32⟩
  | 21 => ⟨S16384x256, .f32⟩
  | 22 => ⟨S1x256, .f32⟩
  | 23 => ⟨S16384x256, .f32⟩
  | 24 => ⟨S16384x256, .f32⟩
  | 25 => ⟨S_, .f32⟩
  | 26 => ⟨S16384x256, .f32⟩
  | 27 => ⟨S16384x256, .f32⟩
  | 28 => ⟨S16384x128, .f32⟩
  | 29 => ⟨S1x128, .f32⟩
  | 30 => ⟨S16384x128, .f32⟩
  | 31 => ⟨S16384x128, .f32⟩
  | 32 => ⟨S_, .f32⟩
  | 33 => ⟨S16384x128, .f32⟩
  | 34 => ⟨S16384x128, .f32⟩
  | 35 => ⟨S16384x768, .f32⟩
  | 36 => ⟨S1x768, .f32⟩
  | 37 => ⟨S16384x768, .f32⟩
  | 38 => ⟨S16384x768, .f32⟩
  | 39 => ⟨S16384x4x192, .f32⟩
  | 40 => ⟨S16384x4x192, .f32⟩
  | 41 => ⟨S_, .f32⟩
  | 42 => ⟨S16384x4, .f32⟩
  | 43 => ⟨S16384x4x1, .f32⟩
  | 44 => ⟨S4x1024x192, .f32⟩
  | 45 => ⟨S_, .f32⟩
  | 46 => ⟨S4x1024, .f32⟩
  | 47 => ⟨S1x4x1024, .f32⟩
  | 48 => ⟨S16384x4x1024, .f32⟩
  | 49 => ⟨S16384x4x1024, .f32⟩
  | 50 => ⟨S16384x4x1024, .f32⟩
  | 51 => ⟨S4x1024x16384, .f32⟩
  | 52 => ⟨S16384x4x1024, .f32⟩
  | 53 => ⟨S_, .f32⟩
  | 54 => ⟨S16384x4x1024, .f32⟩
  | 55 => ⟨S16384x4x1024, .f32⟩
  | 56 => ⟨S16384x4x1024, .f32⟩
  | 57 => ⟨S16384x4x1024, .i32⟩
  | 58 => ⟨S_, .f32⟩
  | 59 => ⟨S_, .i32⟩
  | 60 => ⟨S16384x4, .f32⟩
  | 61 => ⟨S16384x4, .i32⟩
  | 62 => ⟨S1x1024x192, .f32⟩
  | 63 => ⟨S1024x192, .f32⟩
  | 64 => ⟨S16384x1, .i32⟩
  | 65 => ⟨S16384, .i32⟩
  | 66 => ⟨S_, .i32⟩
  | 67 => ⟨S16384, .i32⟩
  | 68 => ⟨S16384, .i1⟩
  | 69 => ⟨S_, .i32⟩
  | 70 => ⟨S16384, .i32⟩
  | 71 => ⟨S16384, .i32⟩
  | 72 => ⟨S16384, .i32⟩
  | 73 => ⟨S16384x1, .i32⟩
  | 74 => ⟨S16384x192, .f32⟩
  | 75 => ⟨S1x1024x192, .f32⟩
  | 76 => ⟨S1024x192, .f32⟩
  | 77 => ⟨S16384x1, .i32⟩
  | 78 => ⟨S16384, .i32⟩
  | 79 => ⟨S_, .i32⟩
  | 80 => ⟨S16384, .i32⟩
  | 81 => ⟨S16384, .i1⟩
  | 82 => ⟨S_, .i32⟩
  | 83 => ⟨S16384, .i32⟩
  | 84 => ⟨S16384, .i32⟩
  | 85 => ⟨S16384, .i32⟩
  | 86 => ⟨S16384x1, .i32⟩
  | 87 => ⟨S16384x192, .f32⟩
  | 88 => ⟨S1x1024x192, .f32⟩
  | 89 => ⟨S1024x192, .f32⟩
  | 90 => ⟨S16384x1, .i32⟩
  | 91 => ⟨S16384, .i32⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S16384x192, .f32⟩
  | 101 => ⟨S1x1024x192, .f32⟩
  | 102 => ⟨S1024x192, .f32⟩
  | 103 => ⟨S16384x1, .i32⟩
  | 104 => ⟨S16384, .i32⟩
  | 105 => ⟨S_, .i32⟩
  | 106 => ⟨S16384, .i32⟩
  | 107 => ⟨S16384, .i1⟩
  | 108 => ⟨S_, .i32⟩
  | 109 => ⟨S16384, .i32⟩
  | 110 => ⟨S16384, .i32⟩
  | 111 => ⟨S16384, .i32⟩
  | 112 => ⟨S16384x1, .i32⟩
  | 113 => ⟨S16384x192, .f32⟩
  | 114 => ⟨S16384x1x192, .f32⟩
  | 115 => ⟨S16384x1x192, .f32⟩
  | 116 => ⟨S16384x1x192, .f32⟩
  | 117 => ⟨S16384x1x192, .f32⟩
  | 118 => ⟨S16384x4x192, .f32⟩
  | 119 => ⟨S16384x4x192, .f32⟩
  | 120 => ⟨S16384x4x192, .f32⟩
  | 121 => ⟨S16384x768, .f32⟩
  | 122 => ⟨S16384x512, .f32⟩
  | 123 => ⟨S1x512, .f32⟩
  | 124 => ⟨S16384x512, .f32⟩
  | 125 => ⟨S16384x512, .f32⟩
  | 126 => ⟨S_, .f32⟩
  | 127 => ⟨S16384x512, .f32⟩
  | _ => ⟨S16384x768, .f32⟩

abbrev hbmTy0_1 (i : Nat) : BufTy := match i % 128 with
  | 0 => ⟨S16384x512, .f32⟩
  | 1 => ⟨S16384x768, .f32⟩
  | 2 => ⟨S1x768, .f32⟩
  | 3 => ⟨S16384x768, .f32⟩
  | 4 => ⟨S16384x768, .f32⟩
  | 5 => ⟨S16384x768, .f32⟩
  | 6 => ⟨S16384x768, .f32⟩
  | 7 => ⟨S_, .f32⟩
  | 8 => ⟨S_, .f32⟩
  | 9 => ⟨S_, .f32⟩
  | 10 => ⟨S_, .f32⟩
  | 11 => ⟨S16384x1x192, .f32⟩
  | 12 => ⟨S16384x192, .f32⟩
  | 13 => ⟨S16384x1x192, .f32⟩
  | 14 => ⟨S16384x192, .f32⟩
  | 15 => ⟨S16384x192, .f32⟩
  | 16 => ⟨S16384x192, .f32⟩
  | 17 => ⟨S_, .f32⟩
  | 18 => ⟨S_, .f32⟩
  | 19 => ⟨S_, .f32⟩
  | 20 => ⟨S_, .f32⟩
  | 21 => ⟨S16384x192, .f32⟩
  | 22 => ⟨S16384x192, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S16384x1x192, .f32⟩
  | 33 => ⟨S16384x192, .f32⟩
  | 34 => ⟨S16384x1x192, .f32⟩
  | 35 => ⟨S16384x192, .f32⟩
  | 36 => ⟨S16384x192, .f32⟩
  | 37 => ⟨S16384x192, .f32⟩
  | 38 => ⟨S_, .f32⟩
  | 39 => ⟨S_, .f32⟩
  | 40 => ⟨S_, .f32⟩
  | 41 => ⟨S_, .f32⟩
  | 42 => ⟨S16384x192, .f32⟩
  | 43 => ⟨S16384x192, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S16384x1x192, .f32⟩
  | 53 => ⟨S16384x192, .f32⟩
  | 54 => ⟨S16384x1x192, .f32⟩
  | 55 => ⟨S16384x192, .f32⟩
  | 56 => ⟨S16384x192, .f32⟩
  | 57 => ⟨S16384x192, .f32⟩
  | 58 => ⟨S_, .f32⟩
  | 59 => ⟨S_, .f32⟩
  | 60 => ⟨S_, .f32⟩
  | 61 => ⟨S_, .f32⟩
  | 62 => ⟨S16384x192, .f32⟩
  | 63 => ⟨S16384x192, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S16384x1x192, .f32⟩
  | 73 => ⟨S16384x192, .f32⟩
  | 74 => ⟨S16384x1x192, .f32⟩
  | 75 => ⟨S16384x192, .f32⟩
  | 76 => ⟨S16384x192, .f32⟩
  | 77 => ⟨S16384x192, .f32⟩
  | 78 => ⟨S_, .f32⟩
  | 79 => ⟨S_, .f32⟩
  | 80 => ⟨S_, .f32⟩
  | 81 => ⟨S_, .f32⟩
  | 82 => ⟨S16384x192, .f32⟩
  | 83 => ⟨S16384x192, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | _ => ⟨S16384x768, .f32⟩

abbrev hbmTy (i : Nat) : BufTy := match i / 128 with
  | 0 => hbmTy0_0 i
  | 1 => hbmTy0_1 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_cst : Ref sig .tc := ⟨.hbm, 32, rfl⟩
abbrev main_call2_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call3_v0 : Ref sig .tc := ⟨.hbm, 57, rfl⟩
abbrev main_call3_cst : Ref sig .tc := ⟨.hbm, 58, rfl⟩
abbrev main_call3_c : Ref sig .tc := ⟨.hbm, 59, rfl⟩
abbrev main_call3_v1_0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c : Ref sig .tc := ⟨.hbm, 66, rfl⟩
abbrev main_v39 : Ref sig .tc := ⟨.hbm, 67, rfl⟩
abbrev main_v40 : Ref sig .tc := ⟨.hbm, 68, rfl⟩
abbrev main_c_2 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_3 : Ref sig .tc := ⟨.hbm, 79, rfl⟩
abbrev main_v50 : Ref sig .tc := ⟨.hbm, 80, rfl⟩
abbrev main_v51 : Ref sig .tc := ⟨.hbm, 81, rfl⟩
abbrev main_c_4 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_5 : Ref sig .tc := ⟨.hbm, 92, rfl⟩
abbrev main_v61 : Ref sig .tc := ⟨.hbm, 93, rfl⟩
abbrev main_v62 : Ref sig .tc := ⟨.hbm, 94, rfl⟩
abbrev main_c_6 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_7 : Ref sig .tc := ⟨.hbm, 105, rfl⟩
abbrev main_v72 : Ref sig .tc := ⟨.hbm, 106, rfl⟩
abbrev main_v73 : Ref sig .tc := ⟨.hbm, 107, rfl⟩
abbrev main_c_8 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_call4_cst : Ref sig .tc := ⟨.hbm, 126, rfl⟩
abbrev main_call4_v0 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_9 : Ref sig .tc := ⟨.hbm, 135, rfl⟩
abbrev main_v98 : Ref sig .tc := ⟨.hbm, 136, rfl⟩
abbrev main_cst_10 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_11 : Ref sig .tc := ⟨.hbm, 145, rfl⟩
abbrev main_v106 : Ref sig .tc := ⟨.hbm, 146, rfl⟩
abbrev main_cst_12 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_13 : Ref sig .tc := ⟨.hbm, 151, rfl⟩
abbrev main_v110 : Ref sig .tc := ⟨.hbm, 152, rfl⟩
abbrev main_cst_14 : Ref sig .tc := ⟨.hbm, 153, rfl⟩
abbrev main_v111 : Ref sig .tc := ⟨.hbm, 154, rfl⟩
abbrev main_cst_15 : Ref sig .tc := ⟨.hbm, 155, rfl⟩
abbrev main_v112 : Ref sig .tc := ⟨.hbm, 156, rfl⟩
abbrev main_cst_16 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_17 : Ref sig .tc := ⟨.hbm, 166, rfl⟩
abbrev main_v121 : Ref sig .tc := ⟨.hbm, 167, rfl⟩
abbrev main_cst_18 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_19 : Ref sig .tc := ⟨.hbm, 172, rfl⟩
abbrev main_v125 : Ref sig .tc := ⟨.hbm, 173, rfl⟩
abbrev main_cst_20 : Ref sig .tc := ⟨.hbm, 174, rfl⟩
abbrev main_v126 : Ref sig .tc := ⟨.hbm, 175, rfl⟩
abbrev main_v127 : Ref sig .tc := ⟨.hbm, 176, rfl⟩
abbrev main_cst_21 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_22 : Ref sig .tc := ⟨.hbm, 186, rfl⟩
abbrev main_v136 : Ref sig .tc := ⟨.hbm, 187, rfl⟩
abbrev main_cst_23 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_24 : Ref sig .tc := ⟨.hbm, 192, rfl⟩
abbrev main_v140 : Ref sig .tc := ⟨.hbm, 193, rfl⟩
abbrev main_cst_25 : Ref sig .tc := ⟨.hbm, 194, rfl⟩
abbrev main_v141 : Ref sig .tc := ⟨.hbm, 195, rfl⟩
abbrev main_v142 : Ref sig .tc := ⟨.hbm, 196, rfl⟩
abbrev main_cst_26 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_cst_27 : Ref sig .tc := ⟨.hbm, 206, rfl⟩
abbrev main_v151 : Ref sig .tc := ⟨.hbm, 207, rfl⟩
abbrev main_cst_28 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_cst_29 : Ref sig .tc := ⟨.hbm, 212, rfl⟩
abbrev main_v155 : Ref sig .tc := ⟨.hbm, 213, rfl⟩
abbrev main_cst_30 : Ref sig .tc := ⟨.hbm, 214, rfl⟩
abbrev main_v156 : Ref sig .tc := ⟨.hbm, 215, rfl⟩
abbrev main_v157 : Ref sig .tc := ⟨.hbm, 216, rfl⟩
abbrev main_cst_31 : Ref sig .tc := ⟨.hbm, 217, rfl⟩
abbrev main_v158 : Ref sig .tc := ⟨.hbm, 218, rfl⟩
abbrev main_v159 : Ref sig .tc := ⟨.hbm, 219, rfl⟩
abbrev main_cst_32 : Ref sig .tc := ⟨.hbm, 220, rfl⟩
abbrev main_v160 : Ref sig .tc := ⟨.hbm, 221, rfl⟩
abbrev main_v161 : Ref sig .tc := ⟨.hbm, 222, rfl⟩

abbrev nD : Nat := 1
abbrev τ : Topo := Topo.v7x

variable {F : FTy → Type} [FloatOps F]
-- ==== Proof.Reference.InOrder.lean ====
/- A line of host operations that writes its buffers in order. Where every operation writes the next buffer and reads
   earlier ones only, nothing is written twice, so at the end every operation's equation still holds: its result buffer
   is its function of its operands' buffers. The end state is thus read off the operations one by one, in any order. -/
module

public import Idealize.ShloMosaic.Lib.StableHlo.Run

@[expose] public section

noncomputable section

namespace VQ.InOrder

open Idealize.ShloMosaic Idealize.ShloMosaic.TcCoe Idealize.ShloMosaic.StableHlo

variable {τ : Topo} {sig : RefSig} {Val : EltTy → Type}

/-- A buffer's place among those of its memory space. -/
abbrev place (r : Ref sig .tc) : Nat := r.idx.val

/-- Two states hold the same in every buffer placed before `n`. -/
def SameBelow (n : Nat) (F G : Valuation τ sig Val) : Prop :=
  ∀ r : Ref sig .tc, place r < n → F (Proc.devRef .tc r) = G (Proc.devRef .tc r)

/-- The operation writes one buffer, at place `n`, and what it writes there depends on earlier buffers only. -/
structure WritesAt (n : Nat) (op : HloOp τ sig Val) : Prop where
  bufs : op.bufs ⊆ tcRefs τ sig
  fresh : op.fresh = ∅
  result : ∃ y : Ref sig .tc, op.writes = {Proc.devRef .tc y} ∧ place y = n ∧
    ∀ F G, SameBelow n F G → op.result F (Proc.devRef .tc y) = op.result G (Proc.devRef .tc y)

/-- The operations write the places `n`, `n + 1`, … in turn. -/
def InOrder : Nat → List (HloOp τ sig Val) → Prop
  | _, [] => True
  | n, op :: ops => WritesAt n op ∧ InOrder (n + 1) ops

/-- A line's first part in order and then its rest from where that ends. -/
theorem InOrder.append {l₂ : List (HloOp τ sig Val)} : ∀ {n k : Nat} {l₁ : List (HloOp τ sig Val)},
    InOrder n l₁ → n + l₁.length = k → InOrder k l₂ → InOrder n (l₁ ++ l₂)
  | _, _, [], _, rfl, h₂ => h₂
  | _, _, _ :: _, h₁, h, h₂ => ⟨h₁.1, InOrder.append h₁.2 (by rw [← h, List.length_cons]; omega) h₂⟩

theorem InOrder.writesAt : ∀ {n : Nat} {ops : List (HloOp τ sig Val)}, InOrder n ops → ∀ op ∈ ops, ∃ k, WritesAt k op
  | _, _ :: _, h, _, hop => by
    rcases List.mem_cons.mp hop with rfl | hop
    · exact ⟨_, h.1⟩
    · exact h.2.writesAt _ hop

/-- What the library's run of a line asks for: no buffer but the device's is touched. -/
theorem InOrder.bufs {n : Nat} {ops : List (HloOp τ sig Val)} (h : InOrder n ops) :
    ops.Forall fun op => op.bufs ⊆ tcRefs τ sig :=
  List.forall_iff_forall_mem.mpr fun op hop => (h.writesAt op hop).choose_spec.bufs

/-- And no operation allocates. -/
theorem InOrder.fresh {n : Nat} {ops : List (HloOp τ sig Val)} (h : InOrder n ops) : ∀ op ∈ ops, op.fresh = ∅ :=
  fun op hop => (h.writesAt op hop).choose_spec.fresh

/-- One operation leaves every other place alone. -/
theorem WritesAt.elsewhere {n : Nat} {op : HloOp τ sig Val} (h : WritesAt n op) (V : Valuation τ sig Val) {r : Ref sig .tc}
    (hr : place r ≠ n) : op.result V (Proc.devRef .tc r) = V (Proc.devRef .tc r) := by
  obtain ⟨y, hw, hy, -⟩ := h.result
  exact result_of_writes_ne op V y r hw fun e => hr (e ▸ hy)

/-- The places before the first written one are left alone. -/
theorem InOrder.below : ∀ {n : Nat} {ops : List (HloOp τ sig Val)}, InOrder n ops → ∀ V, SameBelow n (after ops V) V
  | _, [], _, _, _, _ => rfl
  | _, _ :: _, h, V, r, hr => (h.2.below _ r (Nat.lt_succ_of_lt hr)).trans (h.1.elsewhere V (Nat.ne_of_lt hr))

/-- At the end no operation would change anything if it ran again. -/
theorem InOrder.settled : ∀ {n : Nat} {ops : List (HloOp τ sig Val)}, InOrder n ops → ∀ V : Valuation τ sig Val,
    ops.Forall fun op => op.result (after ops V) = after ops V
  | _, [], _, _ => trivial
  | n, op :: ops, h, V => by
    refine (List.forall_cons _ _ _).mpr ⟨?_, h.2.settled (op.result V)⟩
    obtain ⟨y, hw, hy, hdep⟩ := h.1.result
    funext b
    by_cases hb : b ∈ op.writes
    · rw [hw, Finset.mem_singleton] at hb
      subst hb
      refine (hdep _ V fun r hr => ?_).trans (h.2.below (op.result V) y (hy ▸ Nat.lt_succ_self n)).symm
      exact (h.2.below _ r (Nat.lt_succ_of_lt hr)).trans (h.1.elsewhere V (Nat.ne_of_lt hr))
    · exact op.result_of_not_mem _ hb

/-! ## The builders: each writes at its result's place if its operands come earlier -/

section Builders

variable {n : Nat} {x a b c e y : Ref sig .tc}

theorem writesAt_nullary {v : y.ty.Contents Val} {hy} (h : place y = n) : WritesAt n (nullary (τ := τ) y v hy) :=
  ⟨nullary_bufs_sub .., rfl, y, rfl, h, fun F G _ => by rw [nullary_result, nullary_result]⟩

theorem writesAt_unary {f : x.ty.Contents Val → y.ty.Contents Val} {hx hy} (h : place y = n ∧ place x < n) :
    WritesAt n (unary (τ := τ) x y f hx hy) :=
  ⟨unary_bufs_sub .., rfl, y, rfl, h.1, fun F G s => by rw [unary_result, unary_result, s x h.2]⟩

theorem writesAt_reshape {he hn hx hy} (h : place y = n ∧ place x < n) :
    WritesAt n (reshape (τ := τ) (Val := Val) x y he hn hx hy) :=
  ⟨reshape_bufs_sub .., rfl, y, rfl, h.1, fun F G s => by rw [reshape_result, reshape_result, s x h.2]⟩

theorem writesAt_binary {f : a.ty.Contents Val → b.ty.Contents Val → y.ty.Contents Val} {ha hb hy}
    (h : place y = n ∧ place a < n ∧ place b < n) : WritesAt n (binary (τ := τ) a b y f ha hb hy) :=
  ⟨binary_bufs_sub .., rfl, y, rfl, h.1, fun F G s => by rw [binary_result, binary_result, s a h.2.1, s b h.2.2]⟩

theorem writesAt_ternary {f : c.ty.Contents Val → a.ty.Contents Val → b.ty.Contents Val → y.ty.Contents Val} {hc ha hb hy}
    (h : place y = n ∧ place c < n ∧ place a < n ∧ place b < n) : WritesAt n (ternary (τ := τ) c a b y f hc ha hb hy) :=
  ⟨ternary_bufs_sub .., rfl, y, rfl, h.1, fun F G s => by
    rw [ternary_result, ternary_result, s c h.2.1, s a h.2.2.1, s b h.2.2.2]⟩

theorem writesAt_quaternary
    {f : a.ty.Contents Val → b.ty.Contents Val → c.ty.Contents Val → e.ty.Contents Val → y.ty.Contents Val} {ha hb hc he hy}
    (h : place y = n ∧ place a < n ∧ place b < n ∧ place c < n ∧ place e < n) :
    WritesAt n (quaternary (τ := τ) a b c e y f ha hb hc he hy) :=
  ⟨quaternary_bufs_sub .., rfl, y, rfl, h.1, fun F G s => by
    rw [quaternary_result, quaternary_result, s a h.2.1, s b h.2.2.1, s c h.2.2.2.1, s e h.2.2.2.2]⟩

theorem writesAt_nary {m : Nat} {xs : Fin m → Ref sig .tc} {f : ((k : Fin m) → (xs k).ty.Contents Val) → y.ty.Contents Val}
    {hxs hy} (h : place y = n ∧ ∀ k, place (xs k) < n) : WritesAt n (nary (τ := τ) xs y f hxs hy) :=
  ⟨nary_bufs_sub .., rfl, y, rfl, h.1, fun F G s => by
    rw [nary_result, nary_result, funext fun k => s (xs k) (h.2 k)]⟩

end Builders

/-! ## The builders' equations -/

section Equations

variable {x a b c e y : Ref sig .tc} (V : Valuation τ sig Val)

/-- An operation with one result changes nothing if and only if its result is there already. -/
theorem settled_iff {op : HloOp τ sig Val} (hw : op.writes = {Proc.devRef .tc y}) {v : y.ty.Contents Val}
    (hv : op.result V (Proc.devRef .tc y) = v) : op.result V = V ↔ V (Proc.devRef .tc y) = v := by
  refine ⟨fun h => (congrFun h _).symm.trans hv, fun h => funext fun b => ?_⟩
  by_cases hb : b ∈ op.writes
  · rw [hw, Finset.mem_singleton] at hb
    subst hb
    exact hv.trans h.symm
  · exact op.result_of_not_mem _ hb

theorem settled_nullary (v : y.ty.Contents Val) (hy) :
    (nullary (τ := τ) y v hy).result V = V ↔ V (Proc.devRef .tc y) = v :=
  settled_iff V rfl (nullary_result ..)

theorem settled_unary (f : x.ty.Contents Val → y.ty.Contents Val) (hx hy) :
    (unary (τ := τ) x y f hx hy).result V = V ↔ V (Proc.devRef .tc y) = f (V (Proc.devRef .tc x)) :=
  settled_iff V rfl (unary_result ..)

theorem settled_reshape (he : x.ty.elt = y.ty.elt) (hn hx hy) :
    (reshape (τ := τ) (Val := Val) x y he hn hx hy).result V = V
      ↔ V (Proc.devRef .tc y) = fun i => he ▸ shapeCast y.ty.shape (V (Proc.devRef .tc x)) hn i :=
  settled_iff V rfl (reshape_result ..)

theorem settled_binary (f : a.ty.Contents Val → b.ty.Contents Val → y.ty.Contents Val) (ha hb hy) :
    (binary (τ := τ) a b y f ha hb hy).result V = V
      ↔ V (Proc.devRef .tc y) = f (V (Proc.devRef .tc a)) (V (Proc.devRef .tc b)) :=
  settled_iff V rfl (binary_result ..)

theorem settled_ternary (f : c.ty.Contents Val → a.ty.Contents Val → b.ty.Contents Val → y.ty.Contents Val) (hc ha hb hy) :
    (ternary (τ := τ) c a b y f hc ha hb hy).result V = V
      ↔ V (Proc.devRef .tc y) = f (V (Proc.devRef .tc c)) (V (Proc.devRef .tc a)) (V (Proc.devRef .tc b)) :=
  settled_iff V rfl (ternary_result ..)

theorem settled_quaternary
    (f : a.ty.Contents Val → b.ty.Contents Val → c.ty.Contents Val → e.ty.Contents Val → y.ty.Contents Val) (ha hb hc he hy) :
    (quaternary (τ := τ) a b c e y f ha hb hc he hy).result V = V
      ↔ V (Proc.devRef .tc y) = f (V (Proc.devRef .tc a)) (V (Proc.devRef .tc b)) (V (Proc.devRef .tc c)) (V (Proc.devRef .tc e)) :=
  settled_iff V rfl (quaternary_result ..)

theorem settled_nary {m : Nat} {xs : Fin m → Ref sig .tc} (f : ((k : Fin m) → (xs k).ty.Contents Val) → y.ty.Contents Val)
    (hxs hy) : (nary (τ := τ) xs y f hxs hy).result V = V ↔ V (Proc.devRef .tc y) = f fun k => V (Proc.devRef .tc (xs k)) :=
  settled_iff V rfl (nary_result ..)

end Equations

end VQ.InOrder

end
-- ==== Proof.Reference.Ops.lean ====
/- The reference program as a line of host operations, in the four parts the printed program has. -/
module

public import proofs.«01_k».proof.Proof.Gen.ReferenceIdeal
public import proofs.«01_k».proof.Proof.Reference.InOrder

@[expose] public section

noncomputable section

namespace VQ.Reference

open Cert.ReferenceIdeal Cert.ReferenceIdeal.Gen Idealize.ShloMosaic Idealize.ShloMosaic.TcCoe Idealize.SL.Sem Idealize.ShloMosaic.StableHlo

variable {F : FTy → Type} [FloatOps F]

/-- Four token arrays, side by side along the token axis. -/
def stack (u0 u1 u2 u3 : (⟨S16384x1x192, .f32⟩ : BufTy).Contents (Elt F)) : (⟨S16384x4x192, .f32⟩ : BufTy).Contents (Elt F) :=
  concatenate S16384x4x192 1 [⟨S16384x1x192, u0⟩, ⟨S16384x1x192, u1⟩, ⟨S16384x1x192, u2⟩, ⟨S16384x1x192, u3⟩]
    concatenates_S16384x1x192_S16384x1x192_S16384x1x192_S16384x1x192_S16384x4x192_d1

/-- Part 0: the encoder, the distances, the codes, the first codebook's lookup and the second's begun. -/
abbrev part0 : List (HloOp τ sig (Elt F)) :=
  [ binary main_arg0 main_arg1 main_v0 ((fun l r => Host.dotGeneral dot_S16384x768_S768x512_S16384x512_1_0_0_1_n_n none l r) : (⟨S16384x768, .f32⟩ : BufTy).Contents (Elt F) → (⟨S768x512, .f32⟩ : BufTy).Contents (Elt F) → (⟨S16384x512, .f32⟩ : BufTy).Contents (Elt F)),
    unary main_arg2 main_v1 (broadcastInDim S1x512 ![1] bcast_S512_S1x512_1 : (⟨S512, .f32⟩ : BufTy).Contents (Elt F) → (⟨S1x512, .f32⟩ : BufTy).Contents (Elt F)),
    unary main_v1 main_v2 (broadcastInDim S16384x512 ![0, 1] bcast_S1x512_S16384x512_0_1 : (⟨S1x512, .f32⟩ : BufTy).Contents (Elt F) → (⟨S16384x512, .f32⟩ : BufTy).Contents (Elt F)),
    binary main_v0 main_v2 main_v3 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v3) (TRef.of (T := ⟨S16384x512, .f32⟩) main_call0_v0) (TRef.of (T := ⟨S16384x512, .f32⟩) main_v4) maximumf,
    binary main_v4 main_arg3 main_v5 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg4 main_v6 (broadcastInDim S1x256 ![1] bcast_S256_S1x256_1 : (⟨S256, .f32⟩ : BufTy).Contents (Elt F) → (⟨S1x256, .f32⟩ : BufTy).Contents (Elt F)),
    unary main_v6 main_v7 (broadcastInDim S16384x256 ![0, 1] bcast_S1x256_S16384x256_0_1 : (⟨S1x256, .f32⟩ : BufTy).Contents (Elt F) → (⟨S16384x256, .f32⟩ : BufTy).Contents (Elt F)),
    binary main_v5 main_v7 main_v8 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x256, .f32⟩) main_call1_v0) (broadcastInDim S16384x256 ![] bcast_S_S16384x256),
    TRef.binary (TRef.of (T := ⟨S16384x256, .f32⟩) main_v8) (TRef.of (T := ⟨S16384x256, .f32⟩) main_call1_v0) (TRef.of (T := ⟨S16384x256, .f32⟩) main_v9) maximumf,
    binary main_v9 main_arg5 main_v10 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg6 main_v11 (broadcastInDim S1x128 ![1] bcast_S128_S1x128_1 : (⟨S128, .f32⟩ : BufTy).Contents (Elt F) → (⟨S1x128, .f32⟩ : BufTy).Contents (Elt F)),
    unary main_v11 main_v12 (broadcastInDim S16384x128 ![0, 1] bcast_S1x128_S16384x128_0_1 : (⟨S1x128, .f32⟩ : BufTy).Contents (Elt F) → (⟨S16384x128, .f32⟩ : BufTy).Contents (Elt F)),
    binary main_v10 main_v12 main_v13 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x128, .f32⟩) main_call2_v0) (broadcastInDim S16384x128 ![] bcast_S_S16384x128),
    TRef.binary (TRef.of (T := ⟨S16384x128, .f32⟩) main_v13) (TRef.of (T := ⟨S16384x128, .f32⟩) main_call2_v0) (TRef.of (T := ⟨S16384x128, .f32⟩) main_v14) maximumf,
    binary main_v14 main_arg7 main_v15 ((fun l r => Host.dotGeneral dot_S16384x128_S128x768_S16384x768_1_0_0_1_n_n none l r) : (⟨S16384x128, .f32⟩ : BufTy).Contents (Elt F) → (⟨S128x768, .f32⟩ : BufTy).Contents (Elt F) → (⟨S16384x768, .f32⟩ : BufTy).Contents (Elt F)),
    unary main_arg8 main_v16 (broadcastInDim S1x768 ![1] bcast_S768_S1x768_1 : (⟨S768, .f32⟩ : BufTy).Contents (Elt F) → (⟨S1x768, .f32⟩ : BufTy).Contents (Elt F)),
    unary main_v16 main_v17 (broadcastInDim S16384x768 ![0, 1] bcast_S1x768_S16384x768_0_1 : (⟨S1x768, .f32⟩ : BufTy).Contents (Elt F) → (⟨S16384x768, .f32⟩ : BufTy).Contents (Elt F)),
    binary main_v15 main_v17 main_v18 (addf : (⟨S16384x768, .f32⟩ : BufTy).Contents (Elt F) → (⟨S16384x768, .f32⟩ : BufTy).Contents (Elt F) → (⟨S16384x768, .f32⟩ : BufTy).Contents (Elt F)),
    reshape main_v18 main_v19 (rfl : (.f32 : EltTy) = .f32) shapeCasts_S16384x768_S16384x4x192,
    binary main_v19 main_v19 main_v20 (mulf : (⟨S16384x4x192, .f32⟩ : BufTy).Contents (Elt F) → (⟨S16384x4x192, .f32⟩ : BufTy).Contents (Elt F) → (⟨S16384x4x192, .f32⟩ : BufTy).Contents (Elt F)),
    nullary main_cst (constant S_ .f32 0x00000000#32),
    binary main_v20 main_cst main_v21 ((fun x v => Host.reduceAdd x v reducesTo_S16384x4x192_S16384x4_d2 h_S_) : (⟨S16384x4x192, .f32⟩ : BufTy).Contents (Elt F) → (⟨S_, .f32⟩ : BufTy).Contents (Elt F) → (⟨S16384x4, .f32⟩ : BufTy).Contents (Elt F)),
    unary main_v21 main_v22 (broadcastInDim S16384x4x1 ![0, 1] bcast_S16384x4_S16384x4x1_0_1 : (⟨S16384x4, .f32⟩ : BufTy).Contents (Elt F) → (⟨S16384x4x1, .f32⟩ : BufTy).Contents (Elt F)),
    binary main_arg9 main_arg9 main_v23 (mulf : (⟨S4x1024x192, .f32⟩ : BufTy).Contents (Elt F) → (⟨S4x1024x192, .f32⟩ : BufTy).Contents (Elt F) → (⟨S4x1024x192, .f32⟩ : BufTy).Contents (Elt F)),
    nullary main_cst_0 (constant S_ .f32 0x00000000#32),
    binary main_v23 main_cst_0 main_v24 ((fun x v => Host.reduceAdd x v reducesTo_S4x1024x192_S4x1024_d2 h_S_) : (⟨S4x1024x192, .f32⟩ : BufTy).Contents (Elt F) → (⟨S_, .f32⟩ : BufTy).Contents (Elt F) → (⟨S4x1024, .f32⟩ : BufTy).Contents (Elt F)),
    unary main_v24 main_v25 (broadcastInDim S1x4x1024 ![1, 2] bcast_S4x1024_S1x4x1024_1_2 : (⟨S4x1024, .f32⟩ : BufTy).Contents (Elt F) → (⟨S1x4x1024, .f32⟩ : BufTy).Contents (Elt F)),
    unary main_v22 main_v26 (broadcastInDim S16384x4x1024 ![0, 1, 2] bcast_S16384x4x1_S16384x4x1024_0_1_2 : (⟨S16384x4x1, .f32⟩ : BufTy).Contents (Elt F) → (⟨S16384x4x1024, .f32⟩ : BufTy).Contents (Elt F)),
    unary main_v25 main_v27 (broadcastInDim S16384x4x1024 ![0, 1, 2] bcast_S1x4x1024_S16384x4x1024_0_1_2 : (⟨S1x4x1024, .f32⟩ : BufTy).Contents (Elt F) → (⟨S16384x4x1024, .f32⟩ : BufTy).Contents (Elt F)),
    binary main_v26 main_v27 main_v28 (addf : (⟨S16384x4x1024, .f32⟩ : BufTy).Contents (Elt F) → (⟨S16384x4x1024, .f32⟩ : BufTy).Contents (Elt F) → (⟨S16384x4x1024, .f32⟩ : BufTy).Contents (Elt F)),
    binary main_arg9 main_v19 main_v29 ((fun l r => Host.dotGeneral dot_S4x1024x192_S16384x4x192_S4x1024x16384_2_2_1_0_0_1 none l r) : (⟨S4x1024x192, .f32⟩ : BufTy).Contents (Elt F) → (⟨S16384x4x192, .f32⟩ : BufTy).Contents (Elt F) → (⟨S4x1024x16384, .f32⟩ : BufTy).Contents (Elt F)),
    unary main_v29 main_v30 ((transpose S16384x4x1024 [2, 0, 1] · transposes_S4x1024x16384_S16384x4x1024_2_0_1) : (⟨S4x1024x16384, .f32⟩ : BufTy).Contents (Elt F) → (⟨S16384x4x1024, .f32⟩ : BufTy).Contents (Elt F)),
    nullary main_cst_1 (constant S_ .f32 0x40000000#32),
    unary main_cst_1 main_v31 (broadcastInDim S16384x4x1024 ![] bcast_S_S16384x4x1024 : (⟨S_, .f32⟩ : BufTy).Contents (Elt F) → (⟨S16384x4x1024, .f32⟩ : BufTy).Contents (Elt F)),
    binary main_v31 main_v30 main_v32 (mulf : (⟨S16384x4x1024, .f32⟩ : BufTy).Contents (Elt F) → (⟨S16384x4x1024, .f32⟩ : BufTy).Contents (Elt F) → (⟨S16384x4x1024, .f32⟩ : BufTy).Contents (Elt F)),
    binary main_v28 main_v32 main_v33 (subf : (⟨S16384x4x1024, .f32⟩ : BufTy).Contents (Elt F) → (⟨S16384x4x1024, .f32⟩ : BufTy).Contents (Elt F) → (⟨S16384x4x1024, .f32⟩ : BufTy).Contents (Elt F)),
    TRef.nullary (TRef.of (T := ⟨S16384x4x1024, .i32⟩) main_call3_v0) (iotaInDim S16384x4x1024 32 2),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S16384x4x1024, .f32⟩) main_v33) (TRef.of (T := ⟨S16384x4x1024, .i32⟩) main_call3_v0) (TRef.of (T := ⟨S_, .f32⟩) main_call3_cst) (TRef.of (T := ⟨S_, .i32⟩) main_call3_c) (TRef.of (T := ⟨S16384x4, .f32⟩) main_call3_v1_0) (fun x y u v j => (Host.argReduce reducer_argmin_f32_i32 x y u v reducesTo_S16384x4x1024_S16384x4_d2 h_S_ j).1),
    TRef.quaternary (TRef.of (T := ⟨S16384x4x1024, .f32⟩) main_v33) (TRef.of (T := ⟨S16384x4x1024, .i32⟩) main_call3_v0) (TRef.of (T := ⟨S_, .f32⟩) main_call3_cst) (TRef.of (T := ⟨S_, .i32⟩) main_call3_c) (TRef.of (T := ⟨S16384x4, .i32⟩) main_v34) (fun x y u v j => (Host.argReduce reducer_argmin_f32_i32 x y u v reducesTo_S16384x4x1024_S16384x4_d2 h_S_ j).2),
    unary main_arg9 main_v35 ((extractStridedSlice S1x1024x192 ![0, 0, 0] · slices_S4x1024x192_S1x1024x192_0_0_0) : (⟨S4x1024x192, .f32⟩ : BufTy).Contents (Elt F) → (⟨S1x1024x192, .f32⟩ : BufTy).Contents (Elt F)),
    reshape main_v35 main_v36 (rfl : (.f32 : EltTy) = .f32) shapeCasts_S1x1024x192_S1024x192,
    unary main_v34 main_v37 ((extractStridedSlice S16384x1 ![0, 0] · slices_S16384x4_S16384x1_0_0) : (⟨S16384x4, .i32⟩ : BufTy).Contents (Elt F) → (⟨S16384x1, .i32⟩ : BufTy).Contents (Elt F)),
    reshape main_v37 main_v38 (rfl : (.i32 : EltTy) = .i32) shapeCasts_S16384x1_S16384,
    nullary main_c (constantI S_ 32 0#32),
    unary main_c main_v39 (broadcastInDim S16384 ![] bcast_S_S16384 : (⟨S_, .i32⟩ : BufTy).Contents (Elt F) → (⟨S16384, .i32⟩ : BufTy).Contents (Elt F)),
    binary main_v38 main_v39 main_v40 (cmpi .slt : (⟨S16384, .i32⟩ : BufTy).Contents (Elt F) → (⟨S16384, .i32⟩ : BufTy).Contents (Elt F) → (⟨S16384, .i1⟩ : BufTy).Contents (Elt F)),
    nullary main_c_2 (constantI S_ 32 1024#32),
    unary main_c_2 main_v41 (broadcastInDim S16384 ![] bcast_S_S16384 : (⟨S_, .i32⟩ : BufTy).Contents (Elt F) → (⟨S16384, .i32⟩ : BufTy).Contents (Elt F)),
    binary main_v38 main_v41 main_v42 (addi : (⟨S16384, .i32⟩ : BufTy).Contents (Elt F) → (⟨S16384, .i32⟩ : BufTy).Contents (Elt F) → (⟨S16384, .i32⟩ : BufTy).Contents (Elt F)),
    ternary main_v40 main_v42 main_v38 main_v43 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v43 main_v44 (broadcastInDim S16384x1 ![0] bcast_S16384_S16384x1_0 : (⟨S16384, .i32⟩ : BufTy).Contents (Elt F) → (⟨S16384x1, .i32⟩ : BufTy).Contents (Elt F)),
    binary main_v36 main_v44 main_v45 ((fun x i => Host.gather gather_S1024x192_S16384x1_S16384x192_1_0_n_n_0_1_1192 x i) : (⟨S1024x192, .f32⟩ : BufTy).Contents (Elt F) → (⟨S16384x1, .i32⟩ : BufTy).Contents (Elt F) → (⟨S16384x192, .f32⟩ : BufTy).Contents (Elt F)),
    unary main_arg9 main_v46 ((extractStridedSlice S1x1024x192 ![1, 0, 0] · slices_S4x1024x192_S1x1024x192_1_0_0) : (⟨S4x1024x192, .f32⟩ : BufTy).Contents (Elt F) → (⟨S1x1024x192, .f32⟩ : BufTy).Contents (Elt F)),
    reshape main_v46 main_v47 (rfl : (.f32 : EltTy) = .f32) shapeCasts_S1x1024x192_S1024x192,
    unary main_v34 main_v48 ((extractStridedSlice S16384x1 ![0, 1] · slices_S16384x4_S16384x1_0_1) : (⟨S16384x4, .i32⟩ : BufTy).Contents (Elt F) → (⟨S16384x1, .i32⟩ : BufTy).Contents (Elt F)),
    reshape main_v48 main_v49 (rfl : (.i32 : EltTy) = .i32) shapeCasts_S16384x1_S16384,
    nullary main_c_3 (constantI S_ 32 0#32),
    unary main_c_3 main_v50 (broadcastInDim S16384 ![] bcast_S_S16384 : (⟨S_, .i32⟩ : BufTy).Contents (Elt F) → (⟨S16384, .i32⟩ : BufTy).Contents (Elt F)),
    binary main_v49 main_v50 main_v51 (cmpi .slt : (⟨S16384, .i32⟩ : BufTy).Contents (Elt F) → (⟨S16384, .i32⟩ : BufTy).Contents (Elt F) → (⟨S16384, .i1⟩ : BufTy).Contents (Elt F)),
    nullary main_c_4 (constantI S_ 32 1024#32),
    unary main_c_4 main_v52 (broadcastInDim S16384 ![] bcast_S_S16384 : (⟨S_, .i32⟩ : BufTy).Contents (Elt F) → (⟨S16384, .i32⟩ : BufTy).Contents (Elt F)) ]

/-- Part 1: the other lookups, the decoder, the reconstruction loss, and the first token's differences. -/
abbrev part1 : List (HloOp τ sig (Elt F)) :=
  [ binary main_v49 main_v52 main_v53 (addi : (⟨S16384, .i32⟩ : BufTy).Contents (Elt F) → (⟨S16384, .i32⟩ : BufTy).Contents (Elt F) → (⟨S16384, .i32⟩ : BufTy).Contents (Elt F)),
    ternary main_v51 main_v53 main_v49 main_v54 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v54 main_v55 (broadcastInDim S16384x1 ![0] bcast_S16384_S16384x1_0 : (⟨S16384, .i32⟩ : BufTy).Contents (Elt F) → (⟨S16384x1, .i32⟩ : BufTy).Contents (Elt F)),
    binary main_v47 main_v55 main_v56 ((fun x i => Host.gather gather_S1024x192_S16384x1_S16384x192_1_0_n_n_0_1_1192 x i) : (⟨S1024x192, .f32⟩ : BufTy).Contents (Elt F) → (⟨S16384x1, .i32⟩ : BufTy).Contents (Elt F) → (⟨S16384x192, .f32⟩ : BufTy).Contents (Elt F)),
    unary main_arg9 main_v57 ((extractStridedSlice S1x1024x192 ![2, 0, 0] · slices_S4x1024x192_S1x1024x192_2_0_0) : (⟨S4x1024x192, .f32⟩ : BufTy).Contents (Elt F) → (⟨S1x1024x192, .f32⟩ : BufTy).Contents (Elt F)),
    reshape main_v57 main_v58 (rfl : (.f32 : EltTy) = .f32) shapeCasts_S1x1024x192_S1024x192,
    unary main_v34 main_v59 ((extractStridedSlice S16384x1 ![0, 2] · slices_S16384x4_S16384x1_0_2) : (⟨S16384x4, .i32⟩ : BufTy).Contents (Elt F) → (⟨S16384x1, .i32⟩ : BufTy).Contents (Elt F)),
    reshape main_v59 main_v60 (rfl : (.i32 : EltTy) = .i32) shapeCasts_S16384x1_S16384,
    nullary main_c_5 (constantI S_ 32 0#32),
    unary main_c_5 main_v61 (broadcastInDim S16384 ![] bcast_S_S16384 : (⟨S_, .i32⟩ : BufTy).Contents (Elt F) → (⟨S16384, .i32⟩ : BufTy).Contents (Elt F)),
    binary main_v60 main_v61 main_v62 (cmpi .slt : (⟨S16384, .i32⟩ : BufTy).Contents (Elt F) → (⟨S16384, .i32⟩ : BufTy).Contents (Elt F) → (⟨S16384, .i1⟩ : BufTy).Contents (Elt F)),
    nullary main_c_6 (constantI S_ 32 1024#32),
    unary main_c_6 main_v63 (broadcastInDim S16384 ![] bcast_S_S16384 : (⟨S_, .i32⟩ : BufTy).Contents (Elt F) → (⟨S16384, .i32⟩ : BufTy).Contents (Elt F)),
    binary main_v60 main_v63 main_v64 (addi : (⟨S16384, .i32⟩ : BufTy).Contents (Elt F) → (⟨S16384, .i32⟩ : BufTy).Contents (Elt F) → (⟨S16384, .i32⟩ : BufTy).Contents (Elt F)),
    ternary main_v62 main_v64 main_v60 main_v65 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v65 main_v66 (broadcastInDim S16384x1 ![0] bcast_S16384_S16384x1_0 : (⟨S16384, .i32⟩ : BufTy).Contents (Elt F) → (⟨S16384x1, .i32⟩ : BufTy).Contents (Elt F)),
    binary main_v58 main_v66 main_v67 ((fun x i => Host.gather gather_S1024x192_S16384x1_S16384x192_1_0_n_n_0_1_1192 x i) : (⟨S1024x192, .f32⟩ : BufTy).Contents (Elt F) → (⟨S16384x1, .i32⟩ : BufTy).Contents (Elt F) → (⟨S16384x192, .f32⟩ : BufTy).Contents (Elt F)),
    unary main_arg9 main_v68 ((extractStridedSlice S1x1024x192 ![3, 0, 0] · slices_S4x1024x192_S1x1024x192_3_0_0) : (⟨S4x1024x192, .f32⟩ : BufTy).Contents (Elt F) → (⟨S1x1024x192, .f32⟩ : BufTy).Contents (Elt F)),
    reshape main_v68 main_v69 (rfl : (.f32 : EltTy) = .f32) shapeCasts_S1x1024x192_S1024x192,
    unary main_v34 main_v70 ((extractStridedSlice S16384x1 ![0, 3] · slices_S16384x4_S16384x1_0_3) : (⟨S16384x4, .i32⟩ : BufTy).Contents (Elt F) → (⟨S16384x1, .i32⟩ : BufTy).Contents (Elt F)),
    reshape main_v70 main_v71 (rfl : (.i32 : EltTy) = .i32) shapeCasts_S16384x1_S16384,
    nullary main_c_7 (constantI S_ 32 0#32),
    unary main_c_7 main_v72 (broadcastInDim S16384 ![] bcast_S_S16384 : (⟨S_, .i32⟩ : BufTy).Contents (Elt F) → (⟨S16384, .i32⟩ : BufTy).Contents (Elt F)),
    binary main_v71 main_v72 main_v73 (cmpi .slt : (⟨S16384, .i32⟩ : BufTy).Contents (Elt F) → (⟨S16384, .i32⟩ : BufTy).Contents (Elt F) → (⟨S16384, .i1⟩ : BufTy).Contents (Elt F)),
    nullary main_c_8 (constantI S_ 32 1024#32),
    unary main_c_8 main_v74 (broadcastInDim S16384 ![] bcast_S_S16384 : (⟨S_, .i32⟩ : BufTy).Contents (Elt F) → (⟨S16384, .i32⟩ : BufTy).Contents (Elt F)),
    binary main_v71 main_v74 main_v75 (addi : (⟨S16384, .i32⟩ : BufTy).Contents (Elt F) → (⟨S16384, .i32⟩ : BufTy).Contents (Elt F) → (⟨S16384, .i32⟩ : BufTy).Contents (Elt F)),
    ternary main_v73 main_v75 main_v71 main_v76 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v76 main_v77 (broadcastInDim S16384x1 ![0] bcast_S16384_S16384x1_0 : (⟨S16384, .i32⟩ : BufTy).Contents (Elt F) → (⟨S16384x1, .i32⟩ : BufTy).Contents (Elt F)),
    binary main_v69 main_v77 main_v78 ((fun x i => Host.gather gather_S1024x192_S16384x1_S16384x192_1_0_n_n_0_1_1192 x i) : (⟨S1024x192, .f32⟩ : BufTy).Contents (Elt F) → (⟨S16384x1, .i32⟩ : BufTy).Contents (Elt F) → (⟨S16384x192, .f32⟩ : BufTy).Contents (Elt F)),
    unary main_v45 main_v79 (broadcastInDim S16384x1x192 ![0, 2] bcast_S16384x192_S16384x1x192_0_2 : (⟨S16384x192, .f32⟩ : BufTy).Contents (Elt F) → (⟨S16384x1x192, .f32⟩ : BufTy).Contents (Elt F)),
    unary main_v56 main_v80 (broadcastInDim S16384x1x192 ![0, 2] bcast_S16384x192_S16384x1x192_0_2 : (⟨S16384x192, .f32⟩ : BufTy).Contents (Elt F) → (⟨S16384x1x192, .f32⟩ : BufTy).Contents (Elt F)),
    unary main_v67 main_v81 (broadcastInDim S16384x1x192 ![0, 2] bcast_S16384x192_S16384x1x192_0_2 : (⟨S16384x192, .f32⟩ : BufTy).Contents (Elt F) → (⟨S16384x1x192, .f32⟩ : BufTy).Contents (Elt F)),
    unary main_v78 main_v82 (broadcastInDim S16384x1x192 ![0, 2] bcast_S16384x192_S16384x1x192_0_2 : (⟨S16384x192, .f32⟩ : BufTy).Contents (Elt F) → (⟨S16384x1x192, .f32⟩ : BufTy).Contents (Elt F)),
    nary ![main_v79, main_v80, main_v81, main_v82] main_v83 (fun u => stack (F := F) (u 0) (u 1) (u 2) (u 3)),
    binary main_v83 main_v19 main_v84 (subf : (⟨S16384x4x192, .f32⟩ : BufTy).Contents (Elt F) → (⟨S16384x4x192, .f32⟩ : BufTy).Contents (Elt F) → (⟨S16384x4x192, .f32⟩ : BufTy).Contents (Elt F)),
    binary main_v19 main_v84 main_v85 (addf : (⟨S16384x4x192, .f32⟩ : BufTy).Contents (Elt F) → (⟨S16384x4x192, .f32⟩ : BufTy).Contents (Elt F) → (⟨S16384x4x192, .f32⟩ : BufTy).Contents (Elt F)),
    reshape main_v85 main_v86 (rfl : (.f32 : EltTy) = .f32) shapeCasts_S16384x4x192_S16384x768,
    binary main_v86 main_arg10 main_v87 ((fun l r => Host.dotGeneral dot_S16384x768_S768x512_S16384x512_1_0_0_1_n_n none l r) : (⟨S16384x768, .f32⟩ : BufTy).Contents (Elt F) → (⟨S768x512, .f32⟩ : BufTy).Contents (Elt F) → (⟨S16384x512, .f32⟩ : BufTy).Contents (Elt F)),
    unary main_arg11 main_v88 (broadcastInDim S1x512 ![1] bcast_S512_S1x512_1 : (⟨S512, .f32⟩ : BufTy).Contents (Elt F) → (⟨S1x512, .f32⟩ : BufTy).Contents (Elt F)),
    unary main_v88 main_v89 (broadcastInDim S16384x512 ![0, 1] bcast_S1x512_S16384x512_0_1 : (⟨S1x512, .f32⟩ : BufTy).Contents (Elt F) → (⟨S16384x512, .f32⟩ : BufTy).Contents (Elt F)),
    binary main_v87 main_v89 main_v90 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16384x512, .f32⟩) main_call4_v0) (broadcastInDim S16384x512 ![] bcast_S_S16384x512),
    TRef.binary (TRef.of (T := ⟨S16384x512, .f32⟩) main_v90) (TRef.of (T := ⟨S16384x512, .f32⟩) main_call4_v0) (TRef.of (T := ⟨S16384x512, .f32⟩) main_v91) maximumf,
    binary main_v91 main_arg12 main_v92 ((fun l r => Host.dotGeneral dot_S16384x512_S512x768_S16384x768_1_0_0_1_n_n none l r) : (⟨S16384x512, .f32⟩ : BufTy).Contents (Elt F) → (⟨S512x768, .f32⟩ : BufTy).Contents (Elt F) → (⟨S16384x768, .f32⟩ : BufTy).Contents (Elt F)),
    unary main_arg13 main_v93 (broadcastInDim S1x768 ![1] bcast_S768_S1x768_1 : (⟨S768, .f32⟩ : BufTy).Contents (Elt F) → (⟨S1x768, .f32⟩ : BufTy).Contents (Elt F)),
    unary main_v93 main_v94 (broadcastInDim S16384x768 ![0, 1] bcast_S1x768_S16384x768_0_1 : (⟨S1x768, .f32⟩ : BufTy).Contents (Elt F) → (⟨S16384x768, .f32⟩ : BufTy).Contents (Elt F)),
    binary main_v92 main_v94 main_v95 (addf : (⟨S16384x768, .f32⟩ : BufTy).Contents (Elt F) → (⟨S16384x768, .f32⟩ : BufTy).Contents (Elt F) → (⟨S16384x768, .f32⟩ : BufTy).Contents (Elt F)),
    binary main_v95 main_arg0 main_v96 (subf : (⟨S16384x768, .f32⟩ : BufTy).Contents (Elt F) → (⟨S16384x768, .f32⟩ : BufTy).Contents (Elt F) → (⟨S16384x768, .f32⟩ : BufTy).Contents (Elt F)),
    binary main_v96 main_v96 main_v97 (mulf : (⟨S16384x768, .f32⟩ : BufTy).Contents (Elt F) → (⟨S16384x768, .f32⟩ : BufTy).Contents (Elt F) → (⟨S16384x768, .f32⟩ : BufTy).Contents (Elt F)),
    nullary main_cst_9 (constant S_ .f32 0x00000000#32),
    binary main_v97 main_cst_9 main_v98 ((fun x v => Host.reduceAdd x v reducesTo_S16384x768_S_d0_1 h_S_) : (⟨S16384x768, .f32⟩ : BufTy).Contents (Elt F) → (⟨S_, .f32⟩ : BufTy).Contents (Elt F) → (⟨S_, .f32⟩ : BufTy).Contents (Elt F)),
    nullary main_cst_10 (constant S_ .f32 0x4B400000#32),
    binary main_v98 main_cst_10 main_v99 (Host.divf : (⟨S_, .f32⟩ : BufTy).Contents (Elt F) → (⟨S_, .f32⟩ : BufTy).Contents (Elt F) → (⟨S_, .f32⟩ : BufTy).Contents (Elt F)),
    unary main_v19 main_v100 ((extractStridedSlice S16384x1x192 ![0, 0, 0] · slices_S16384x4x192_S16384x1x192_0_0_0) : (⟨S16384x4x192, .f32⟩ : BufTy).Contents (Elt F) → (⟨S16384x1x192, .f32⟩ : BufTy).Contents (Elt F)),
    reshape main_v100 main_v101 (rfl : (.f32 : EltTy) = .f32) shapeCasts_S16384x1x192_S16384x192,
    unary main_v85 main_v102 ((extractStridedSlice S16384x1x192 ![0, 0, 0] · slices_S16384x4x192_S16384x1x192_0_0_0) : (⟨S16384x4x192, .f32⟩ : BufTy).Contents (Elt F) → (⟨S16384x1x192, .f32⟩ : BufTy).Contents (Elt F)),
    reshape main_v102 main_v103 (rfl : (.f32 : EltTy) = .f32) shapeCasts_S16384x1x192_S16384x192,
    binary main_v101 main_v103 main_v104 (subf : (⟨S16384x192, .f32⟩ : BufTy).Contents (Elt F) → (⟨S16384x192, .f32⟩ : BufTy).Contents (Elt F) → (⟨S16384x192, .f32⟩ : BufTy).Contents (Elt F)),
    binary main_v104 main_v104 main_v105 (mulf : (⟨S16384x192, .f32⟩ : BufTy).Contents (Elt F) → (⟨S16384x192, .f32⟩ : BufTy).Contents (Elt F) → (⟨S16384x192, .f32⟩ : BufTy).Contents (Elt F)),
    nullary main_cst_11 (constant S_ .f32 0x00000000#32) ]

/-- Part 2: the first three tokens' means, and the fourth's begun. -/
abbrev part2 : List (HloOp τ sig (Elt F)) :=
  [ binary main_v105 main_cst_11 main_v106 ((fun x v => Host.reduceAdd x v reducesTo_S16384x192_S_d0_1 h_S_) : (⟨S16384x192, .f32⟩ : BufTy).Contents (Elt F) → (⟨S_, .f32⟩ : BufTy).Contents (Elt F) → (⟨S_, .f32⟩ : BufTy).Contents (Elt F)),
    nullary main_cst_12 (constant S_ .f32 0x4A400000#32),
    binary main_v106 main_cst_12 main_v107 (Host.divf : (⟨S_, .f32⟩ : BufTy).Contents (Elt F) → (⟨S_, .f32⟩ : BufTy).Contents (Elt F) → (⟨S_, .f32⟩ : BufTy).Contents (Elt F)),
    binary main_v101 main_v103 main_v108 (subf : (⟨S16384x192, .f32⟩ : BufTy).Contents (Elt F) → (⟨S16384x192, .f32⟩ : BufTy).Contents (Elt F) → (⟨S16384x192, .f32⟩ : BufTy).Contents (Elt F)),
    binary main_v108 main_v108 main_v109 (mulf : (⟨S16384x192, .f32⟩ : BufTy).Contents (Elt F) → (⟨S16384x192, .f32⟩ : BufTy).Contents (Elt F) → (⟨S16384x192, .f32⟩ : BufTy).Contents (Elt F)),
    nullary main_cst_13 (constant S_ .f32 0x00000000#32),
    binary main_v109 main_cst_13 main_v110 ((fun x v => Host.reduceAdd x v reducesTo_S16384x192_S_d0_1 h_S_) : (⟨S16384x192, .f32⟩ : BufTy).Contents (Elt F) → (⟨S_, .f32⟩ : BufTy).Contents (Elt F) → (⟨S_, .f32⟩ : BufTy).Contents (Elt F)),
    nullary main_cst_14 (constant S_ .f32 0x4A400000#32),
    binary main_v110 main_cst_14 main_v111 (Host.divf : (⟨S_, .f32⟩ : BufTy).Contents (Elt F) → (⟨S_, .f32⟩ : BufTy).Contents (Elt F) → (⟨S_, .f32⟩ : BufTy).Contents (Elt F)),
    nullary main_cst_15 (constant S_ .f32 0x00000000#32),
    binary main_cst_15 main_v107 main_v112 (addf : (⟨S_, .f32⟩ : BufTy).Contents (Elt F) → (⟨S_, .f32⟩ : BufTy).Contents (Elt F) → (⟨S_, .f32⟩ : BufTy).Contents (Elt F)),
    nullary main_cst_16 (constant S_ .f32 0x3E800000#32),
    binary main_cst_16 main_v111 main_v113 (mulf : (⟨S_, .f32⟩ : BufTy).Contents (Elt F) → (⟨S_, .f32⟩ : BufTy).Contents (Elt F) → (⟨S_, .f32⟩ : BufTy).Contents (Elt F)),
    binary main_v112 main_v113 main_v114 (addf : (⟨S_, .f32⟩ : BufTy).Contents (Elt F) → (⟨S_, .f32⟩ : BufTy).Contents (Elt F) → (⟨S_, .f32⟩ : BufTy).Contents (Elt F)),
    unary main_v19 main_v115 ((extractStridedSlice S16384x1x192 ![0, 1, 0] · slices_S16384x4x192_S16384x1x192_0_1_0) : (⟨S16384x4x192, .f32⟩ : BufTy).Contents (Elt F) → (⟨S16384x1x192, .f32⟩ : BufTy).Contents (Elt F)),
    reshape main_v115 main_v116 (rfl : (.f32 : EltTy) = .f32) shapeCasts_S16384x1x192_S16384x192,
    unary main_v85 main_v117 ((extractStridedSlice S16384x1x192 ![0, 1, 0] · slices_S16384x4x192_S16384x1x192_0_1_0) : (⟨S16384x4x192, .f32⟩ : BufTy).Contents (Elt F) → (⟨S16384x1x192, .f32⟩ : BufTy).Contents (Elt F)),
    reshape main_v117 main_v118 (rfl : (.f32 : EltTy) = .f32) shapeCasts_S16384x1x192_S16384x192,
    binary main_v116 main_v118 main_v119 (subf : (⟨S16384x192, .f32⟩ : BufTy).Contents (Elt F) → (⟨S16384x192, .f32⟩ : BufTy).Contents (Elt F) → (⟨S16384x192, .f32⟩ : BufTy).Contents (Elt F)),
    binary main_v119 main_v119 main_v120 (mulf : (⟨S16384x192, .f32⟩ : BufTy).Contents (Elt F) → (⟨S16384x192, .f32⟩ : BufTy).Contents (Elt F) → (⟨S16384x192, .f32⟩ : BufTy).Contents (Elt F)),
    nullary main_cst_17 (constant S_ .f32 0x00000000#32),
    binary main_v120 main_cst_17 main_v121 ((fun x v => Host.reduceAdd x v reducesTo_S16384x192_S_d0_1 h_S_) : (⟨S16384x192, .f32⟩ : BufTy).Contents (Elt F) → (⟨S_, .f32⟩ : BufTy).Contents (Elt F) → (⟨S_, .f32⟩ : BufTy).Contents (Elt F)),
    nullary main_cst_18 (constant S_ .f32 0x4A400000#32),
    binary main_v121 main_cst_18 main_v122 (Host.divf : (⟨S_, .f32⟩ : BufTy).Contents (Elt F) → (⟨S_, .f32⟩ : BufTy).Contents (Elt F) → (⟨S_, .f32⟩ : BufTy).Contents (Elt F)),
    binary main_v116 main_v118 main_v123 (subf : (⟨S16384x192, .f32⟩ : BufTy).Contents (Elt F) → (⟨S16384x192, .f32⟩ : BufTy).Contents (Elt F) → (⟨S16384x192, .f32⟩ : BufTy).Contents (Elt F)),
    binary main_v123 main_v123 main_v124 (mulf : (⟨S16384x192, .f32⟩ : BufTy).Contents (Elt F) → (⟨S16384x192, .f32⟩ : BufTy).Contents (Elt F) → (⟨S16384x192, .f32⟩ : BufTy).Contents (Elt F)),
    nullary main_cst_19 (constant S_ .f32 0x00000000#32),
    binary main_v124 main_cst_19 main_v125 ((fun x v => Host.reduceAdd x v reducesTo_S16384x192_S_d0_1 h_S_) : (⟨S16384x192, .f32⟩ : BufTy).Contents (Elt F) → (⟨S_, .f32⟩ : BufTy).Contents (Elt F) → (⟨S_, .f32⟩ : BufTy).Contents (Elt F)),
    nullary main_cst_20 (constant S_ .f32 0x4A400000#32),
    binary main_v125 main_cst_20 main_v126 (Host.divf : (⟨S_, .f32⟩ : BufTy).Contents (Elt F) → (⟨S_, .f32⟩ : BufTy).Contents (Elt F) → (⟨S_, .f32⟩ : BufTy).Contents (Elt F)),
    binary main_v114 main_v122 main_v127 (addf : (⟨S_, .f32⟩ : BufTy).Contents (Elt F) → (⟨S_, .f32⟩ : BufTy).Contents (Elt F) → (⟨S_, .f32⟩ : BufTy).Contents (Elt F)),
    nullary main_cst_21 (constant S_ .f32 0x3E800000#32),
    binary main_cst_21 main_v126 main_v128 (mulf : (⟨S_, .f32⟩ : BufTy).Contents (Elt F) → (⟨S_, .f32⟩ : BufTy).Contents (Elt F) → (⟨S_, .f32⟩ : BufTy).Contents (Elt F)),
    binary main_v127 main_v128 main_v129 (addf : (⟨S_, .f32⟩ : BufTy).Contents (Elt F) → (⟨S_, .f32⟩ : BufTy).Contents (Elt F) → (⟨S_, .f32⟩ : BufTy).Contents (Elt F)),
    unary main_v19 main_v130 ((extractStridedSlice S16384x1x192 ![0, 2, 0] · slices_S16384x4x192_S16384x1x192_0_2_0) : (⟨S16384x4x192, .f32⟩ : BufTy).Contents (Elt F) → (⟨S16384x1x192, .f32⟩ : BufTy).Contents (Elt F)),
    reshape main_v130 main_v131 (rfl : (.f32 : EltTy) = .f32) shapeCasts_S16384x1x192_S16384x192,
    unary main_v85 main_v132 ((extractStridedSlice S16384x1x192 ![0, 2, 0] · slices_S16384x4x192_S16384x1x192_0_2_0) : (⟨S16384x4x192, .f32⟩ : BufTy).Contents (Elt F) → (⟨S16384x1x192, .f32⟩ : BufTy).Contents (Elt F)),
    reshape main_v132 main_v133 (rfl : (.f32 : EltTy) = .f32) shapeCasts_S16384x1x192_S16384x192,
    binary main_v131 main_v133 main_v134 (subf : (⟨S16384x192, .f32⟩ : BufTy).Contents (Elt F) → (⟨S16384x192, .f32⟩ : BufTy).Contents (Elt F) → (⟨S16384x192, .f32⟩ : BufTy).Contents (Elt F)),
    binary main_v134 main_v134 main_v135 (mulf : (⟨S16384x192, .f32⟩ : BufTy).Contents (Elt F) → (⟨S16384x192, .f32⟩ : BufTy).Contents (Elt F) → (⟨S16384x192, .f32⟩ : BufTy).Contents (Elt F)),
    nullary main_cst_22 (constant S_ .f32 0x00000000#32),
    binary main_v135 main_cst_22 main_v136 ((fun x v => Host.reduceAdd x v reducesTo_S16384x192_S_d0_1 h_S_) : (⟨S16384x192, .f32⟩ : BufTy).Contents (Elt F) → (⟨S_, .f32⟩ : BufTy).Contents (Elt F) → (⟨S_, .f32⟩ : BufTy).Contents (Elt F)),
    nullary main_cst_23 (constant S_ .f32 0x4A400000#32),
    binary main_v136 main_cst_23 main_v137 (Host.divf : (⟨S_, .f32⟩ : BufTy).Contents (Elt F) → (⟨S_, .f32⟩ : BufTy).Contents (Elt F) → (⟨S_, .f32⟩ : BufTy).Contents (Elt F)),
    binary main_v131 main_v133 main_v138 (subf : (⟨S16384x192, .f32⟩ : BufTy).Contents (Elt F) → (⟨S16384x192, .f32⟩ : BufTy).Contents (Elt F) → (⟨S16384x192, .f32⟩ : BufTy).Contents (Elt F)),
    binary main_v138 main_v138 main_v139 (mulf : (⟨S16384x192, .f32⟩ : BufTy).Contents (Elt F) → (⟨S16384x192, .f32⟩ : BufTy).Contents (Elt F) → (⟨S16384x192, .f32⟩ : BufTy).Contents (Elt F)),
    nullary main_cst_24 (constant S_ .f32 0x00000000#32),
    binary main_v139 main_cst_24 main_v140 ((fun x v => Host.reduceAdd x v reducesTo_S16384x192_S_d0_1 h_S_) : (⟨S16384x192, .f32⟩ : BufTy).Contents (Elt F) → (⟨S_, .f32⟩ : BufTy).Contents (Elt F) → (⟨S_, .f32⟩ : BufTy).Contents (Elt F)),
    nullary main_cst_25 (constant S_ .f32 0x4A400000#32),
    binary main_v140 main_cst_25 main_v141 (Host.divf : (⟨S_, .f32⟩ : BufTy).Contents (Elt F) → (⟨S_, .f32⟩ : BufTy).Contents (Elt F) → (⟨S_, .f32⟩ : BufTy).Contents (Elt F)),
    binary main_v129 main_v137 main_v142 (addf : (⟨S_, .f32⟩ : BufTy).Contents (Elt F) → (⟨S_, .f32⟩ : BufTy).Contents (Elt F) → (⟨S_, .f32⟩ : BufTy).Contents (Elt F)),
    nullary main_cst_26 (constant S_ .f32 0x3E800000#32),
    binary main_cst_26 main_v141 main_v143 (mulf : (⟨S_, .f32⟩ : BufTy).Contents (Elt F) → (⟨S_, .f32⟩ : BufTy).Contents (Elt F) → (⟨S_, .f32⟩ : BufTy).Contents (Elt F)),
    binary main_v142 main_v143 main_v144 (addf : (⟨S_, .f32⟩ : BufTy).Contents (Elt F) → (⟨S_, .f32⟩ : BufTy).Contents (Elt F) → (⟨S_, .f32⟩ : BufTy).Contents (Elt F)),
    unary main_v19 main_v145 ((extractStridedSlice S16384x1x192 ![0, 3, 0] · slices_S16384x4x192_S16384x1x192_0_3_0) : (⟨S16384x4x192, .f32⟩ : BufTy).Contents (Elt F) → (⟨S16384x1x192, .f32⟩ : BufTy).Contents (Elt F)),
    reshape main_v145 main_v146 (rfl : (.f32 : EltTy) = .f32) shapeCasts_S16384x1x192_S16384x192,
    unary main_v85 main_v147 ((extractStridedSlice S16384x1x192 ![0, 3, 0] · slices_S16384x4x192_S16384x1x192_0_3_0) : (⟨S16384x4x192, .f32⟩ : BufTy).Contents (Elt F) → (⟨S16384x1x192, .f32⟩ : BufTy).Contents (Elt F)),
    reshape main_v147 main_v148 (rfl : (.f32 : EltTy) = .f32) shapeCasts_S16384x1x192_S16384x192,
    binary main_v146 main_v148 main_v149 (subf : (⟨S16384x192, .f32⟩ : BufTy).Contents (Elt F) → (⟨S16384x192, .f32⟩ : BufTy).Contents (Elt F) → (⟨S16384x192, .f32⟩ : BufTy).Contents (Elt F)),
    binary main_v149 main_v149 main_v150 (mulf : (⟨S16384x192, .f32⟩ : BufTy).Contents (Elt F) → (⟨S16384x192, .f32⟩ : BufTy).Contents (Elt F) → (⟨S16384x192, .f32⟩ : BufTy).Contents (Elt F)) ]

/-- Part 3: the rest of the fourth token's means, and the sums. -/
abbrev part3 : List (HloOp τ sig (Elt F)) :=
  [ nullary main_cst_27 (constant S_ .f32 0x00000000#32),
    binary main_v150 main_cst_27 main_v151 ((fun x v => Host.reduceAdd x v reducesTo_S16384x192_S_d0_1 h_S_) : (⟨S16384x192, .f32⟩ : BufTy).Contents (Elt F) → (⟨S_, .f32⟩ : BufTy).Contents (Elt F) → (⟨S_, .f32⟩ : BufTy).Contents (Elt F)),
    nullary main_cst_28 (constant S_ .f32 0x4A400000#32),
    binary main_v151 main_cst_28 main_v152 (Host.divf : (⟨S_, .f32⟩ : BufTy).Contents (Elt F) → (⟨S_, .f32⟩ : BufTy).Contents (Elt F) → (⟨S_, .f32⟩ : BufTy).Contents (Elt F)),
    binary main_v146 main_v148 main_v153 (subf : (⟨S16384x192, .f32⟩ : BufTy).Contents (Elt F) → (⟨S16384x192, .f32⟩ : BufTy).Contents (Elt F) → (⟨S16384x192, .f32⟩ : BufTy).Contents (Elt F)),
    binary main_v153 main_v153 main_v154 (mulf : (⟨S16384x192, .f32⟩ : BufTy).Contents (Elt F) → (⟨S16384x192, .f32⟩ : BufTy).Contents (Elt F) → (⟨S16384x192, .f32⟩ : BufTy).Contents (Elt F)),
    nullary main_cst_29 (constant S_ .f32 0x00000000#32),
    binary main_v154 main_cst_29 main_v155 ((fun x v => Host.reduceAdd x v reducesTo_S16384x192_S_d0_1 h_S_) : (⟨S16384x192, .f32⟩ : BufTy).Contents (Elt F) → (⟨S_, .f32⟩ : BufTy).Contents (Elt F) → (⟨S_, .f32⟩ : BufTy).Contents (Elt F)),
    nullary main_cst_30 (constant S_ .f32 0x4A400000#32),
    binary main_v155 main_cst_30 main_v156 (Host.divf : (⟨S_, .f32⟩ : BufTy).Contents (Elt F) → (⟨S_, .f32⟩ : BufTy).Contents (Elt F) → (⟨S_, .f32⟩ : BufTy).Contents (Elt F)),
    binary main_v144 main_v152 main_v157 (addf : (⟨S_, .f32⟩ : BufTy).Contents (Elt F) → (⟨S_, .f32⟩ : BufTy).Contents (Elt F) → (⟨S_, .f32⟩ : BufTy).Contents (Elt F)),
    nullary main_cst_31 (constant S_ .f32 0x3E800000#32),
    binary main_cst_31 main_v156 main_v158 (mulf : (⟨S_, .f32⟩ : BufTy).Contents (Elt F) → (⟨S_, .f32⟩ : BufTy).Contents (Elt F) → (⟨S_, .f32⟩ : BufTy).Contents (Elt F)),
    binary main_v157 main_v158 main_v159 (addf : (⟨S_, .f32⟩ : BufTy).Contents (Elt F) → (⟨S_, .f32⟩ : BufTy).Contents (Elt F) → (⟨S_, .f32⟩ : BufTy).Contents (Elt F)),
    nullary main_cst_32 (constant S_ .f32 0x40800000#32),
    binary main_v159 main_cst_32 main_v160 (Host.divf : (⟨S_, .f32⟩ : BufTy).Contents (Elt F) → (⟨S_, .f32⟩ : BufTy).Contents (Elt F) → (⟨S_, .f32⟩ : BufTy).Contents (Elt F)),
    binary main_v99 main_v160 main_v161 (addf : (⟨S_, .f32⟩ : BufTy).Contents (Elt F) → (⟨S_, .f32⟩ : BufTy).Contents (Elt F) → (⟨S_, .f32⟩ : BufTy).Contents (Elt F)) ]

/-- The reference's operations. -/
abbrev ops : List (HloOp τ sig (Elt F)) := part0 ++ (part1 ++ (part2 ++ part3))

set_option maxRecDepth 8192 in
set_option maxHeartbeats 4000000 in
/-- The printed program is these operations in a line. -/
theorem main_eq (c : Dev nD) : main (F := F) c = seq ops := by
  have h0 : main_part0 (F := F) c = seq part0 := rfl
  have h1 : main_part1 (F := F) c = seq part1 := rfl
  have h2 : main_part2 (F := F) c = seq part2 := rfl
  have h3 : main_part3 (F := F) c = seq part3 := rfl
  simp only [ops, seq_append, ← h0, ← h1, ← h2, ← h3]
  rfl

end VQ.Reference

end
-- ==== Proof.Reference.Arrays.lean ====
/- The arrays the reference computes, each from its arguments and the arrays before it, in the reference's own
   operations. -/
module

public import proofs.«01_k».proof.Proof.Reference.Ops

@[expose] public section

noncomputable section

namespace VQ.Reference

open Cert.ReferenceIdeal Cert.ReferenceIdeal.Gen Idealize.ShloMosaic Idealize.ShloMosaic.TcCoe Idealize.SL.Sem Idealize.ShloMosaic.StableHlo

variable {F : FTy → Type} [FloatOps F]

section Pieces

/-- A column of codes as row numbers for a lookup: a negative one counts from the end. -/
abbrev rowNumbers (c : IVec S16384 32) : IVec S16384x1 32 :=
  broadcastInDim S16384x1 ![0] bcast_S16384_S16384x1_0
    (select (cmpi .slt c (broadcastInDim S16384 ![] bcast_S_S16384 (constantI S_ 32 0#32)))
      (addi c (broadcastInDim S16384 ![] bcast_S_S16384 (constantI S_ 32 1024#32))) c)

/-- One token's rows of its codebook, as a token array. -/
def lookup (x : FVec F S1x1024x192 .f32) (c : IVec S16384x1 32) : FVec F S16384x1x192 .f32 :=
  broadcastInDim S16384x1x192 ![0, 2] bcast_S16384x192_S16384x1x192_0_2
    (Host.gather gather_S1024x192_S16384x1_S16384x192_1_0_n_n_0_1_1192 (shapeCast S1024x192 x shapeCasts_S1x1024x192_S1024x192)
      (rowNumbers (shapeCast S16384 c shapeCasts_S16384x1_S16384)))

/-- One token's difference of two arrays of tokens. -/
abbrev tokenDiff (x y : FVec F S16384x1x192 .f32) : FVec F S16384x192 .f32 :=
  subf (shapeCast S16384x192 x shapeCasts_S16384x1x192_S16384x192) (shapeCast S16384x192 y shapeCasts_S16384x1x192_S16384x192)

/-- The mean square of a batch-sized array. -/
abbrev batchMean (d : FVec F S16384x768 .f32) : FVec F S_ .f32 :=
  Host.divf (Host.reduceAdd (mulf d d) (constant S_ .f32 0x00000000#32) reducesTo_S16384x768_S_d0_1 h_S_)
    (constant S_ .f32 0x4B400000#32)

/-- The mean square of an array holding one token a row. -/
abbrev tokenMean (d : FVec F S16384x192 .f32) : FVec F S_ .f32 :=
  Host.divf (Host.reduceAdd (mulf d d) (constant S_ .f32 0x00000000#32) reducesTo_S16384x192_S_d0_1 h_S_)
    (constant S_ .f32 0x4A400000#32)

/-- A token's two means, the second at a quarter, added to a sum. -/
abbrev addMeans (s : FVec F S_ .f32) (d : FVec F S16384x192 .f32) : FVec F S_ .f32 :=
  addf (addf s (tokenMean d)) (mulf (constant S_ .f32 0x3E800000#32) (tokenMean d))

/-- The quantisation loss from the four arrays of differences. -/
abbrev quantLoss (d0 d1 d2 d3 : FVec F S16384x192 .f32) : FVec F S_ .f32 :=
  Host.divf (addMeans (addMeans (addMeans (addMeans (constant S_ .f32 0x00000000#32) d0) d1) d2) d3)
    (constant S_ .f32 0x40800000#32)

/-- The first least places of an array of distances, along its last axis. -/
def leastPlaces (d : FVec F S16384x4x1024 .f32) : IVec S16384x4 32 := fun j =>
  (Host.argReduce reducer_argmin_f32_i32 d (iotaInDim S16384x4x1024 32 2) (constant S_ .f32 0x7F800000#32)
    (constantI S_ 32 0#32) reducesTo_S16384x4x1024_S16384x4_d2 h_S_ j).2

/-- Every token's rows of its codebook, by an array of codes. -/
def pick (x : FVec F S4x1024x192 .f32) (c : IVec S16384x4 32) : FVec F S16384x4x192 .f32 :=
  stack
    (lookup (extractStridedSlice S1x1024x192 ![0, 0, 0] x slices_S4x1024x192_S1x1024x192_0_0_0)
      (extractStridedSlice S16384x1 ![0, 0] c slices_S16384x4_S16384x1_0_0))
    (lookup (extractStridedSlice S1x1024x192 ![1, 0, 0] x slices_S4x1024x192_S1x1024x192_1_0_0)
      (extractStridedSlice S16384x1 ![0, 1] c slices_S16384x4_S16384x1_0_1))
    (lookup (extractStridedSlice S1x1024x192 ![2, 0, 0] x slices_S4x1024x192_S1x1024x192_2_0_0)
      (extractStridedSlice S16384x1 ![0, 2] c slices_S16384x4_S16384x1_0_2))
    (lookup (extractStridedSlice S1x1024x192 ![3, 0, 0] x slices_S4x1024x192_S1x1024x192_3_0_0)
      (extractStridedSlice S16384x1 ![0, 3] c slices_S16384x4_S16384x1_0_3))

end Pieces

variable (V0 : Valuation τ sig (Elt F))

/-- The input rows. -/
abbrev input : FVec F S16384x768 .f32 := V0 (Proc.devRef .tc main_arg0)

/-- The four codebooks. -/
abbrev books : FVec F S4x1024x192 .f32 := V0 (Proc.devRef .tc main_arg9)

/-- The encoder's first layer. -/
abbrev enc1 : FVec F S16384x512 .f32 :=
  maximumf (addf (Host.dotGeneral (φ₁ := .f32) (φ₂ := .f32) dot_S16384x768_S768x512_S16384x512_1_0_0_1_n_n none (input V0) (V0 (Proc.devRef .tc main_arg1)))
      (broadcastInDim S16384x512 ![0, 1] bcast_S1x512_S16384x512_0_1 (broadcastInDim S1x512 ![1] bcast_S512_S1x512_1 (V0 (Proc.devRef .tc main_arg2)))))
    (broadcastInDim S16384x512 ![] bcast_S_S16384x512 (constant S_ .f32 0x00000000#32))

/-- Its second layer. -/
abbrev enc2 : FVec F S16384x256 .f32 :=
  maximumf (addf (Host.dotGeneral (φ₁ := .f32) (φ₂ := .f32) dot_S16384x512_S512x256_S16384x256_1_0_0_1_n_n none (enc1 V0) (V0 (Proc.devRef .tc main_arg3)))
      (broadcastInDim S16384x256 ![0, 1] bcast_S1x256_S16384x256_0_1 (broadcastInDim S1x256 ![1] bcast_S256_S1x256_1 (V0 (Proc.devRef .tc main_arg4)))))
    (broadcastInDim S16384x256 ![] bcast_S_S16384x256 (constant S_ .f32 0x00000000#32))

/-- Its third layer. -/
abbrev enc3 : FVec F S16384x128 .f32 :=
  maximumf (addf (Host.dotGeneral (φ₁ := .f32) (φ₂ := .f32) dot_S16384x256_S256x128_S16384x128_1_0_0_1_n_n none (enc2 V0) (V0 (Proc.devRef .tc main_arg5)))
      (broadcastInDim S16384x128 ![0, 1] bcast_S1x128_S16384x128_0_1 (broadcastInDim S1x128 ![1] bcast_S128_S1x128_1 (V0 (Proc.devRef .tc main_arg6)))))
    (broadcastInDim S16384x128 ![] bcast_S_S16384x128 (constant S_ .f32 0x00000000#32))

/-- The encoder's output, four tokens a row. -/
def tokens : FVec F S16384x4x192 .f32 :=
  shapeCast S16384x4x192
    (addf (Host.dotGeneral (φ₁ := .f32) (φ₂ := .f32) dot_S16384x128_S128x768_S16384x768_1_0_0_1_n_n none (enc3 V0) (V0 (Proc.devRef .tc main_arg7)))
      (broadcastInDim S16384x768 ![0, 1] bcast_S1x768_S16384x768_0_1 (broadcastInDim S1x768 ![1] bcast_S768_S1x768_1 (V0 (Proc.devRef .tc main_arg8)))))
    shapeCasts_S16384x768_S16384x4x192

/-- The squared distance of every token to every row of its codebook. -/
def dists : FVec F S16384x4x1024 .f32 :=
  subf
    (addf
      (broadcastInDim S16384x4x1024 ![0, 1, 2] bcast_S16384x4x1_S16384x4x1024_0_1_2
        (broadcastInDim S16384x4x1 ![0, 1] bcast_S16384x4_S16384x4x1_0_1
          (Host.reduceAdd (mulf (tokens V0) (tokens V0)) (constant S_ .f32 0x00000000#32) reducesTo_S16384x4x192_S16384x4_d2 h_S_)))
      (broadcastInDim S16384x4x1024 ![0, 1, 2] bcast_S1x4x1024_S16384x4x1024_0_1_2
        (broadcastInDim S1x4x1024 ![1, 2] bcast_S4x1024_S1x4x1024_1_2
          (Host.reduceAdd (mulf (books V0) (books V0)) (constant S_ .f32 0x00000000#32) reducesTo_S4x1024x192_S4x1024_d2 h_S_))))
    (mulf (broadcastInDim S16384x4x1024 ![] bcast_S_S16384x4x1024 (constant S_ .f32 0x40000000#32))
      (transpose S16384x4x1024 [2, 0, 1]
        (Host.dotGeneral (φ₁ := .f32) (φ₂ := .f32) dot_S4x1024x192_S16384x4x192_S4x1024x16384_2_2_1_0_0_1 none (books V0) (tokens V0))
        transposes_S4x1024x16384_S16384x4x1024_2_0_1))

/-- The codes. -/
def codes : IVec S16384x4 32 := leastPlaces (dists V0)

/-- The codebooks' rows that the codes name. -/
abbrev chosen : FVec F S16384x4x192 .f32 := pick (books V0) (codes V0)

/-- The quantised tokens, as the reference returns them. -/
def quantized : FVec F S16384x4x192 .f32 := addf (tokens V0) (subf (chosen V0) (tokens V0))

/-- The reconstruction. -/
def recon : FVec F S16384x768 .f32 :=
  addf
    (Host.dotGeneral (φ₁ := .f32) (φ₂ := .f32) dot_S16384x512_S512x768_S16384x768_1_0_0_1_n_n none
      (maximumf
        (addf (Host.dotGeneral (φ₁ := .f32) (φ₂ := .f32) dot_S16384x768_S768x512_S16384x512_1_0_0_1_n_n none
            (shapeCast S16384x768 (quantized V0) shapeCasts_S16384x4x192_S16384x768) (V0 (Proc.devRef .tc main_arg10)))
          (broadcastInDim S16384x512 ![0, 1] bcast_S1x512_S16384x512_0_1 (broadcastInDim S1x512 ![1] bcast_S512_S1x512_1 (V0 (Proc.devRef .tc main_arg11)))))
        (broadcastInDim S16384x512 ![] bcast_S_S16384x512 (constant S_ .f32 0x00000000#32)))
      (V0 (Proc.devRef .tc main_arg12)))
    (broadcastInDim S16384x768 ![0, 1] bcast_S1x768_S16384x768_0_1 (broadcastInDim S1x768 ![1] bcast_S768_S1x768_1 (V0 (Proc.devRef .tc main_arg13))))

/-- Its difference from the input. -/
abbrev reconErr : FVec F S16384x768 .f32 := subf (recon V0) (input V0)

/-- The four tokens' differences from what replaced them. -/
def diff0 : FVec F S16384x192 .f32 :=
  tokenDiff (extractStridedSlice S16384x1x192 ![0, 0, 0] (tokens V0) slices_S16384x4x192_S16384x1x192_0_0_0)
    (extractStridedSlice S16384x1x192 ![0, 0, 0] (quantized V0) slices_S16384x4x192_S16384x1x192_0_0_0)
@[inherit_doc diff0]
def diff1 : FVec F S16384x192 .f32 :=
  tokenDiff (extractStridedSlice S16384x1x192 ![0, 1, 0] (tokens V0) slices_S16384x4x192_S16384x1x192_0_1_0)
    (extractStridedSlice S16384x1x192 ![0, 1, 0] (quantized V0) slices_S16384x4x192_S16384x1x192_0_1_0)
@[inherit_doc diff0]
def diff2 : FVec F S16384x192 .f32 :=
  tokenDiff (extractStridedSlice S16384x1x192 ![0, 2, 0] (tokens V0) slices_S16384x4x192_S16384x1x192_0_2_0)
    (extractStridedSlice S16384x1x192 ![0, 2, 0] (quantized V0) slices_S16384x4x192_S16384x1x192_0_2_0)
@[inherit_doc diff0]
def diff3 : FVec F S16384x192 .f32 :=
  tokenDiff (extractStridedSlice S16384x1x192 ![0, 3, 0] (tokens V0) slices_S16384x4x192_S16384x1x192_0_3_0)
    (extractStridedSlice S16384x1x192 ![0, 3, 0] (quantized V0) slices_S16384x4x192_S16384x1x192_0_3_0)

/-- The reconstruction loss. -/
abbrev reconLoss : FVec F S_ .f32 := batchMean (reconErr V0)

/-- The quantisation loss. -/
abbrev vqLoss : FVec F S_ .f32 := quantLoss (diff0 V0) (diff1 V0) (diff2 V0) (diff3 V0)

end VQ.Reference

end
-- ==== Proof.Reference.Run.lean ====
/- The reference's run: its six results end at the arrays of `Arrays`, its arguments unchanged. The operations write
   their buffers in order, so the end state satisfies every operation's equation; the results are read off those. -/
module

public import proofs.«01_k».proof.Proof.Reference.Arrays

@[expose] public section

set_option Elab.async false

noncomputable section

namespace VQ.Reference

open Cert.ReferenceIdeal Cert.ReferenceIdeal.Gen Idealize.ShloMosaic Idealize.ShloMosaic.TcCoe Idealize.SL.Sem Idealize.ShloMosaic.StableHlo VQ.InOrder

variable {F : FTy → Type} [FloatOps F]

set_option maxRecDepth 16384 in
set_option maxHeartbeats 2000000 in
/-- The operations write the buffers after the fourteen arguments, in order. -/
theorem ops_inOrder : InOrder 14 (ops : List (HloOp τ sig (Elt F))) := by
  refine InOrder.append (k := 84) (l₁ := part0) ?_ rfl
    (InOrder.append (k := 146) (l₁ := part1) ?_ rfl (InOrder.append (k := 206) (l₁ := part2) ?_ rfl ?_))
  all_goals
    repeat' apply And.intro
    all_goals first
      | exact writesAt_binary (by decide)
      | exact writesAt_unary (by decide)
      | exact writesAt_nullary (by decide)
      | exact writesAt_reshape (by decide)
      | exact writesAt_ternary (by decide)
      | exact writesAt_quaternary (by decide)
      | exact writesAt_nary (by decide)
      | trivial

set_option maxRecDepth 16384 in
set_option maxHeartbeats 4000000 in
/-- A state that keeps the arguments and satisfies every operation's equation holds the arrays. -/
theorem arrays_of_settled {V V0 : Valuation τ sig (Elt F)} (ha : SameBelow 14 V V0)
    (h : (ops : List (HloOp τ sig (Elt F))).Forall fun op => op.result V = V) :
    V (Proc.devRef .tc main_v161) = addf (reconLoss V0) (vqLoss V0) ∧ V (Proc.devRef .tc main_v99) = reconLoss V0
      ∧ V (Proc.devRef .tc main_v160) = vqLoss V0 ∧ V (Proc.devRef .tc main_v34) = codes V0
      ∧ V (Proc.devRef .tc main_v85) = quantized V0 ∧ V (Proc.devRef .tc main_v95) = recon V0 := by
  simp only [ops, part0, part1, part2, part3, List.cons_append, List.nil_append, List.Forall, TRef.nullary, TRef.unary,
    TRef.binary, TRef.quaternary, TRef.toBuf, TRef.ofBuf, cast_eq, settled_nullary, settled_unary, settled_reshape,
    settled_binary, settled_ternary, settled_quaternary, settled_nary] at h
  have a0 := ha main_arg0 (by decide)
  have a1 := ha main_arg1 (by decide)
  have a2 := ha main_arg2 (by decide)
  have a3 := ha main_arg3 (by decide)
  have a4 := ha main_arg4 (by decide)
  have a5 := ha main_arg5 (by decide)
  have a6 := ha main_arg6 (by decide)
  have a7 := ha main_arg7 (by decide)
  have a8 := ha main_arg8 (by decide)
  have a9 := ha main_arg9 (by decide)
  have a10 := ha main_arg10 (by decide)
  have a11 := ha main_arg11 (by decide)
  have a12 := ha main_arg12 (by decide)
  have a13 := ha main_arg13 (by decide)
  have tok : V (Proc.devRef .tc main_v19) = tokens V0 := by
    simp only [h, a0, a1, a2, a3, a4, a5, a6, a7, a8]
    rfl
  have dis : V (Proc.devRef .tc main_v33) = dists V0 := by
    simp only [↓ tok, h, a9]
    rfl
  have cod : V (Proc.devRef .tc main_v34) = codes V0 := by
    simp only [↓ dis, h]
    rfl
  have cho : V (Proc.devRef .tc main_v83) = chosen V0 := by
    simp only [h]
    dsimp only [Matrix.cons_val]
    simp only [↓ cod, h, a9]
    rfl
  have qua : V (Proc.devRef .tc main_v85) = quantized V0 := by
    simp only [↓ tok, ↓ cho, h]
    rfl
  have dec : V (Proc.devRef .tc main_v95) = recon V0 := by
    simp only [↓ qua, h, a10, a11, a12, a13]
    rfl
  have los : V (Proc.devRef .tc main_v99) = reconLoss V0 := by
    simp only [↓ dec, h, a0]
  have vql : V (Proc.devRef .tc main_v160) = vqLoss V0 := by
    simp only [↓ tok, ↓ qua, h]
    rfl
  exact ⟨by simp only [↓ los, ↓ vql, h], los, vql, cod, qua, dec⟩

/-- From any memory with zero counters, every weakly fair execution of the reference terminates with its six results at
    these arrays of its arguments, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v161) = addf (reconLoss (launchContents m c)) (vqLoss (launchContents m c))
      ∧ r.2.mem ((c.tc : Thread nD τ).loc main_v99) = reconLoss (launchContents m c)
      ∧ r.2.mem ((c.tc : Thread nD τ).loc main_v160) = vqLoss (launchContents m c)
      ∧ r.2.mem ((c.tc : Thread nD τ).loc main_v34) = codes (launchContents m c)
      ∧ r.2.mem ((c.tc : Thread nD τ).loc main_v85) = quantized (launchContents m c)
      ∧ r.2.mem ((c.tc : Thread nD τ).loc main_v95) = recon (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ?_)
    (run_seq (by decide) (by decide) defs main (fun _ => ops) main_eq (fun _ => ops_inOrder.bufs) m ρ
      fun _ => ops_inOrder.fresh)
  have below := ops_inOrder.below (launchContents m c)
  obtain ⟨h0, h1, h2, h3, h4, h5⟩ := arrays_of_settled below (ops_inOrder.settled (launchContents m c))
  have k : ∀ a : Ref sig .tc, place a < 14 → r.2.mem ((c.tc : Thread nD τ).loc a) = m ((c.tc : Thread nD τ).loc a) :=
    fun a ha => (h c a).trans (below a ha)
  exact ⟨⟨(h c _).trans h0, (h c _).trans h1, (h c _).trans h2, (h c _).trans h3, (h c _).trans h4, (h c _).trans h5⟩,
    k main_arg0 (by decide), k main_arg1 (by decide), k main_arg2 (by decide), k main_arg3 (by decide), k main_arg4 (by decide), k main_arg5 (by decide), k main_arg6 (by decide),
    k main_arg7 (by decide), k main_arg8 (by decide), k main_arg9 (by decide), k main_arg10 (by decide), k main_arg11 (by decide), k main_arg12 (by decide), k main_arg13 (by decide)⟩

end VQ.Reference

end
-- ==== Proof.Spec.lean ====
module

public import Mathlib.Data.EReal.Operations
public import Mathlib.Algebra.BigOperators.Fin

/-! # The product-quantised autoencoder, one row at a time

What the kernel and the reference both compute, written over the extended reals for a single input row. A row goes
through four affine layers (the first three followed by a `relu`) and comes out as four tokens of 192 numbers. Each token
is replaced by the nearest row of its codebook, and the four chosen rows go through two more affine layers. -/

@[expose] public section

open scoped BigOperators

namespace VQ

noncomputable section

/-- One affine layer: `v W + b`. -/
def lin {n k : ℕ} (W : Fin n → Fin k → EReal) (b : Fin k → EReal) (v : Fin n → EReal) : Fin k → EReal :=
  fun j => ∑ i, v i * W i j + b j

/-- The positive part, element by element. -/
def relu {n : ℕ} (v : Fin n → EReal) : Fin n → EReal := fun j => max (v j) 0

/-- `i` is the first place where `f` is least. -/
def IsFirstMin {n : ℕ} (f : Fin n → EReal) (i : Fin n) : Prop :=
  (∀ j, f i ≤ f j) ∧ ∀ j, j < i → f i < f j

/-- A function on a nonempty finite range has a first least place. -/
theorem exists_isFirstMin {n : ℕ} [NeZero n] (f : Fin n → EReal) : ∃ i, IsFirstMin f i := by
  classical
  obtain ⟨a, -, ha⟩ := Finset.exists_min_image Finset.univ f ⟨0, Finset.mem_univ _⟩
  have hne : (Finset.univ.filter fun i => ∀ j, f i ≤ f j).Nonempty := ⟨a, by simpa using fun j => ha j (Finset.mem_univ _)⟩
  refine ⟨(Finset.univ.filter fun i => ∀ j, f i ≤ f j).min' hne, ?_, ?_⟩
  · simpa using Finset.min'_mem _ hne
  · intro j hj
    refine lt_of_le_of_ne ((by simpa using Finset.min'_mem _ hne : ∀ j, f _ ≤ f j) j) fun h => ?_
    refine absurd (Finset.min'_le _ j ?_) (not_le.2 hj)
    simpa [← h] using Finset.min'_mem _ hne

/-- There is only one first least place. -/
theorem IsFirstMin.unique {n : ℕ} {f : Fin n → EReal} {i j : Fin n} (hi : IsFirstMin f i) (hj : IsFirstMin f j) : i = j := by
  rcases lt_trichotomy i j with h | h | h
  · exact absurd (hj.2 i h) (not_lt.2 (hi.1 j))
  · exact h
  · exact absurd (hi.2 j h) (not_lt.2 (hj.1 i))

/-- The first place where `f` is least. -/
def firstMin {n : ℕ} [NeZero n] (f : Fin n → EReal) : Fin n := Classical.choose (exists_isFirstMin f)

theorem firstMin_spec {n : ℕ} [NeZero n] (f : Fin n → EReal) : IsFirstMin f (firstMin f) :=
  Classical.choose_spec (exists_isFirstMin f)

theorem IsFirstMin.eq {n : ℕ} [NeZero n] {f : Fin n → EReal} {i : Fin n} (h : IsFirstMin f i) : i = firstMin f :=
  h.unique (firstMin_spec f)

/-- The parameters: three hidden layers `A1 … a3`, the token layer `T`, `t` (its columns named by token and position),
    the codebooks `C` with the squared lengths `N` of their rows, and the decoder `D1 … d2`. -/
structure Net where
  A1 : Fin 768 → Fin 512 → EReal
  a1 : Fin 512 → EReal
  A2 : Fin 512 → Fin 256 → EReal
  a2 : Fin 256 → EReal
  A3 : Fin 256 → Fin 128 → EReal
  a3 : Fin 128 → EReal
  T : Fin 4 → Fin 128 → Fin 192 → EReal
  t : Fin 4 → Fin 192 → EReal
  C : Fin 4 → Fin 1024 → Fin 192 → EReal
  N : Fin 4 → Fin 1024 → EReal
  D1 : Fin 768 → Fin 512 → EReal
  d1 : Fin 512 → EReal
  D2 : Fin 512 → Fin 768 → EReal
  d2 : Fin 768 → EReal

namespace Net

variable (P : Net) (v : Fin 768 → EReal)

/-- The last hidden layer of the encoder. -/
def hidden : Fin 128 → EReal := relu (lin P.A3 P.a3 (relu (lin P.A2 P.a2 (relu (lin P.A1 P.a1 v)))))

/-- Token `k` of the row. -/
def token (k : Fin 4) : Fin 192 → EReal := lin (P.T k) (P.t k) (P.hidden v)

/-- The squared distance from token `k` to row `i` of its codebook, less the token's own squared length. -/
def score (k : Fin 4) (i : Fin 1024) : EReal := P.N k i - ((2 : ℝ) : EReal) * ∑ e, P.token v k e * P.C k i e

/-- The code of token `k`: the first nearest row of its codebook. -/
def code (k : Fin 4) : Fin 1024 := firstMin (P.score v k)

/-- The four chosen codebook rows, laid end to end. -/
def chosen : Fin 768 → EReal := fun j =>
  P.C ⟨j / 192, by omega⟩ (P.code v ⟨j / 192, by omega⟩) ⟨j % 192, by omega⟩

/-- Place `192 k + e` of the chosen rows is place `e` of the row chosen for token `k`. -/
theorem chosen_eq {j : Fin 768} {k : Fin 4} {e : Fin 192} (h : j.val = 192 * k.val + e.val) :
    P.chosen v j = P.C k (P.code v k) e := by
  have hk : (⟨j.val / 192, by omega⟩ : Fin 4) = k := Fin.ext (by show j.val / 192 = k.val; omega)
  have he : (⟨j.val % 192, by omega⟩ : Fin 192) = e := Fin.ext (by show j.val % 192 = e.val; omega)
  rw [chosen, hk, he]

/-- The decoder's output. -/
def decoded : Fin 768 → EReal := lin P.D2 P.d2 (relu (lin P.D1 P.d1 (P.chosen v)))

/-- The row's squared reconstruction error. -/
def recErr : EReal := ∑ j, (P.decoded v j - v j) * (P.decoded v j - v j)

/-- The squared length of token `k`. -/
def sqLen (k : Fin 4) : EReal := ∑ e, P.token v k e * P.token v k e

end Net

end

end VQ
-- ==== Proof.Model.lean ====
module

public import proofs.«01_k».proof.Proof.Spec
public import Idealize.ShloMosaic.Lib.Pointwise

/-! # The parameters as arrays

Both programs receive the parameters as the same thirteen arrays. Token `k` takes the columns `192 k … 192 k + 191` of the
fourth layer, and the squared length of a codebook row is the sum of its squared entries. -/

@[expose] public section

open Idealize Idealize.ShloMosaic
open scoped BigOperators

namespace VQ

noncomputable section

/-- The network held by the parameter arrays. -/
def model (w1 : (⟨2, ![768, 512]⟩ : Shape).Idx → EReal) (b1 : (⟨1, ![512]⟩ : Shape).Idx → EReal)
    (w2 : (⟨2, ![512, 256]⟩ : Shape).Idx → EReal) (b2 : (⟨1, ![256]⟩ : Shape).Idx → EReal)
    (w3 : (⟨2, ![256, 128]⟩ : Shape).Idx → EReal) (b3 : (⟨1, ![128]⟩ : Shape).Idx → EReal)
    (w4 : (⟨2, ![128, 768]⟩ : Shape).Idx → EReal) (b4 : (⟨1, ![768]⟩ : Shape).Idx → EReal)
    (cb : (⟨3, ![4, 1024, 192]⟩ : Shape).Idx → EReal)
    (u1 : (⟨2, ![768, 512]⟩ : Shape).Idx → EReal) (e1 : (⟨1, ![512]⟩ : Shape).Idx → EReal)
    (u2 : (⟨2, ![512, 768]⟩ : Shape).Idx → EReal) (e2 : (⟨1, ![768]⟩ : Shape).Idx → EReal) : Net where
  A1 i j := w1 (ix2 i j)
  a1 j := b1 (ix1 j)
  A2 i j := w2 (ix2 i j)
  a2 j := b2 (ix1 j)
  A3 i j := w3 (ix2 i j)
  a3 j := b3 (ix1 j)
  T k i e := w4 (ix2 i ⟨192 * k.val + e.val, by omega⟩)
  t k e := b4 (ix1 ⟨192 * k.val + e.val, by omega⟩)
  C k i e := cb (ix3 k i e)
  N k i := ∑ e, cb (ix3 k i e) * cb (ix3 k i e)
  D1 i j := u1 (ix2 i j)
  d1 j := e1 (ix1 j)
  D2 i j := u2 (ix2 i j)
  d2 j := e2 (ix1 j)

/-- Row `b` of the batch. -/
def batchRow (x : (⟨2, ![16384, 768]⟩ : Shape).Idx → EReal) (b : Fin 16384) : Fin 768 → EReal := fun j => x (ix2 b j)

end

end VQ
-- ==== Proof.Numbers.lean ====
module

public import Idealize.ShloMosaic.Lib.Pointwise
public import Idealize.ShloMosaic.Lib.WordCmp

/-! # The constants of the two programs, as extended reals -/

@[expose] public section

open Idealize Idealize.ShloMosaic Idealize.ShloMosaic.WordCmp

namespace VQ

/-- Plus infinity. -/
theorem bits_top : Ideal.ofBits .f32 0x7F800000#32 = (⊤ : EReal) := by
  simp [Ideal.ofBits, Ideal.ieee]

/-- Two. -/
theorem bits_two : Ideal.ofBits .f32 0x40000000#32 = ((2 : ℝ) : EReal) := by
  simp [Ideal.ofBits, Ideal.ieee, -EReal.coe_mul]; norm_num

/-- Four. -/
theorem bits_four : Ideal.ofBits .f32 0x40800000#32 = ((4 : ℝ) : EReal) := by
  simp [Ideal.ofBits, Ideal.ieee, -EReal.coe_mul]; norm_num

/-- A quarter. -/
theorem bits_quarter : Ideal.ofBits .f32 0x3E800000#32 = ((1 / 4 : ℝ) : EReal) := by
  simp [Ideal.ofBits, Ideal.ieee, -EReal.coe_mul]; norm_num

/-- One and a quarter. -/
theorem bits_five_quarters : Ideal.ofBits .f32 0x3FA00000#32 = ((5 / 4 : ℝ) : EReal) := by
  simp [Ideal.ofBits, Ideal.ieee, -EReal.coe_mul]; norm_num

/-- The number of elements of one token over the batch, 16384 × 192. -/
theorem bits_tokenCount : Ideal.ofBits .f32 0x4A400000#32 = ((3145728 : ℝ) : EReal) := by
  simp [Ideal.ofBits, Ideal.ieee, -EReal.coe_mul]; norm_num

/-- The number of elements of the batch, 16384 × 768. -/
theorem bits_batchCount : Ideal.ofBits .f32 0x4B400000#32 = ((12582912 : ℝ) : EReal) := by
  simp [Ideal.ofBits, Ideal.ieee, -EReal.coe_mul]

/-- A number up to 1024 as a word, read signed. -/
theorem toInt_small {k : ℕ} (h : k ≤ 1024) : (BitVec.ofNat 32 k).toInt = k :=
  toInt_ofNat_of_lt (by omega)

/-- Numbers below 1024 are told apart by their words. -/
theorem ofNat_inj {a b : ℕ} (ha : a ≤ 1024) (hb : b ≤ 1024) (h : BitVec.ofNat 32 a = BitVec.ofNat 32 b) : a = b := by
  have := congrArg BitVec.toInt h
  rw [toInt_small ha, toInt_small hb] at this
  exact_mod_cast this

end VQ
-- ==== Proof.Reals.lean ====
module

public import proofs.«01_k».proof.Proof.Spec
public import Idealize.ShloMosaic.Lib.Pointwise

/-! # Where the arguments are real numbers

With real arguments every token and every score is real, and there the usual algebra holds: a distance is a score plus a
constant of the row, so both have the same first least place; and the squared distance to the chosen row is the token's
squared length plus the score. -/

@[expose] public section

open Idealize Idealize.ShloMosaic
open scoped BigOperators

namespace VQ

noncomputable section

/-- The extended real is a real number. -/
def IsReal (x : EReal) : Prop := ∃ r : ℝ, x = (r : EReal)

namespace IsReal

theorem zero : IsReal 0 := ⟨0, rfl⟩

theorem add {x y : EReal} : IsReal x → IsReal y → IsReal (x + y) := by
  rintro ⟨a, rfl⟩ ⟨b, rfl⟩; exact ⟨a + b, (EReal.coe_add a b).symm⟩

theorem sub {x y : EReal} : IsReal x → IsReal y → IsReal (x - y) := by
  rintro ⟨a, rfl⟩ ⟨b, rfl⟩; exact ⟨a - b, (EReal.coe_sub a b).symm⟩

theorem mul {x y : EReal} : IsReal x → IsReal y → IsReal (x * y) := by
  rintro ⟨a, rfl⟩ ⟨b, rfl⟩; exact ⟨a * b, (EReal.coe_mul a b).symm⟩

theorem max {x y : EReal} (hx : IsReal x) (hy : IsReal y) : IsReal (Max.max x y) := by
  rcases max_choice x y with h | h <;> rw [h] <;> assumption

theorem sum {n : ℕ} {f : Fin n → EReal} (h : ∀ i, IsReal (f i)) : IsReal (∑ i, f i) := by
  choose r hr using h
  exact ⟨∑ i, r i, by simp only [hr]; exact (map_sum (⟨⟨Real.toEReal, rfl⟩, EReal.coe_add⟩ : ℝ →+ EReal) r Finset.univ).symm⟩

end IsReal

/-- A finite sum of real numbers, taken in the extended reals. -/
theorem coe_sum {n : ℕ} (r : Fin n → ℝ) : ∑ i, ((r i : ℝ) : EReal) = ((∑ i, r i : ℝ) : EReal) :=
  (map_sum (⟨⟨Real.toEReal, rfl⟩, EReal.coe_add⟩ : ℝ →+ EReal) r Finset.univ).symm

/-- A quotient of real numbers, the divisor not zero. -/
theorem div_coe (a b : ℝ) (hb : b ≠ 0) : Ideal.div (a : EReal) (b : EReal) = ((a / b : ℝ) : EReal) := by
  unfold Ideal.div
  rw [if_neg (fun h => hb (EReal.coe_eq_zero.1 h)), ← EReal.coe_inv, ← EReal.coe_mul, div_eq_mul_inv]

/-- Equal dividends, equal quotients. -/
theorem div_congr {a b n : EReal} (h : a = b) : Ideal.div a n = Ideal.div b n := by rw [h]

/-- A constant added to every value moves no minimum. -/
theorem firstMin_add {n : ℕ} [NeZero n] {t : EReal} {g : Fin n → EReal} (ht : IsReal t) (hg : ∀ i, IsReal (g i)) :
    firstMin (fun i => t + g i) = firstMin g := by
  obtain ⟨t, rfl⟩ := ht
  choose r hr using hg
  obtain ⟨hle, hlt⟩ := firstMin_spec fun i => (t : EReal) + g i
  refine IsFirstMin.eq ⟨fun j => ?_, fun j hj => ?_⟩
  · have h := hle j
    simp only [hr, ← EReal.coe_add, EReal.coe_le_coe_iff] at h ⊢
    linarith
  · have h := hlt j hj
    simp only [hr, ← EReal.coe_add, EReal.coe_lt_coe_iff] at h ⊢
    linarith

/-- Going to `q` from `a` by their difference. -/
theorem add_sub_self {a q : EReal} : IsReal a → IsReal q → a + (q - a) = q := by
  rintro ⟨a, rfl⟩ ⟨q, rfl⟩
  rw [← EReal.coe_sub, ← EReal.coe_add, add_sub_cancel]

theorem lin_real {n k : ℕ} {W : Fin n → Fin k → EReal} {b : Fin k → EReal} {v : Fin n → EReal} (hW : ∀ i j, IsReal (W i j))
    (hb : ∀ j, IsReal (b j)) (hv : ∀ i, IsReal (v i)) (j : Fin k) : IsReal (lin W b v j) :=
  (IsReal.sum fun i => (hv i).mul (hW i j)).add (hb j)

theorem relu_real {n : ℕ} {v : Fin n → EReal} (hv : ∀ i, IsReal (v i)) (j : Fin n) : IsReal (relu v j) := (hv j).max .zero

/-- The encoder and the codebooks hold real numbers, and `N` is what it should be. -/
structure Net.Real (P : Net) : Prop where
  A1 : ∀ i j, IsReal (P.A1 i j)
  a1 : ∀ j, IsReal (P.a1 j)
  A2 : ∀ i j, IsReal (P.A2 i j)
  a2 : ∀ j, IsReal (P.a2 j)
  A3 : ∀ i j, IsReal (P.A3 i j)
  a3 : ∀ j, IsReal (P.a3 j)
  T : ∀ k i e, IsReal (P.T k i e)
  t : ∀ k e, IsReal (P.t k e)
  C : ∀ k i e, IsReal (P.C k i e)
  N : ∀ k i, P.N k i = ∑ e, P.C k i e * P.C k i e

namespace Net

variable {P : Net} {v : Fin 768 → EReal} (h : P.Real) (hv : ∀ i, IsReal (v i))

include h hv in
theorem token_real (k : Fin 4) (e : Fin 192) : IsReal (P.token v k e) :=
  lin_real (h.T k) (h.t k) (relu_real (lin_real h.A3 h.a3 (relu_real (lin_real h.A2 h.a2 (relu_real (lin_real h.A1 h.a1 hv)))))) e

include h hv in
theorem sqLen_real (k : Fin 4) : IsReal (P.sqLen v k) :=
  .sum fun e => (token_real h hv k e).mul (token_real h hv k e)

include h hv in
theorem score_real (k : Fin 4) (i : Fin 1024) : IsReal (P.score v k i) := by
  rw [score, h.N]
  exact (IsReal.sum fun e => (h.C k i e).mul (h.C k i e)).sub (.mul ⟨2, rfl⟩ (.sum fun e => (token_real h hv k e).mul (h.C k i e)))

include h hv in
/-- A distance is the score plus the token's squared length. -/
theorem dist_eq (k : Fin 4) (i : Fin 1024) :
    (P.sqLen v k + P.N k i) - ((2 : ℝ) : EReal) * ∑ e, P.C k i e * P.token v k e = P.sqLen v k + P.score v k i := by
  have hc : ∑ e, P.C k i e * P.token v k e = ∑ e, P.token v k e * P.C k i e := Finset.sum_congr rfl fun e _ => mul_comm _ _
  rw [hc, score, sub_eq_add_neg, sub_eq_add_neg, add_assoc]

include h hv in
/-- The first nearest row, by distances. -/
theorem code_eq (k : Fin 4) :
    (firstMin fun i => (P.sqLen v k + P.N k i) - ((2 : ℝ) : EReal) * ∑ e, P.C k i e * P.token v k e) = P.code v k := by
  simp only [dist_eq h hv]
  exact firstMin_add (sqLen_real h hv k) fun i => score_real h hv k i

include h hv in
/-- The squared distance from a token to a row of its codebook. -/
theorem sqDist_eq (k : Fin 4) (i : Fin 1024) :
    ∑ e, (P.token v k e - P.C k i e) * (P.token v k e - P.C k i e) = P.sqLen v k + P.score v k i := by
  choose x hx using token_real h hv k
  choose y hy using h.C k i
  rw [sqLen, score, h.N]
  simp only [hx, hy, ← EReal.coe_sub, ← EReal.coe_mul, coe_sum, ← EReal.coe_add]
  refine congrArg _ ?_
  rw [Finset.mul_sum, ← Finset.sum_sub_distrib, ← Finset.sum_add_distrib]
  exact Finset.sum_congr rfl fun e _ => by ring

/-- The squared distance from token `k` to the row chosen for it. -/
def sqDist (P : Net) (v : Fin 768 → EReal) (k : Fin 4) : EReal := P.sqLen v k + P.score v k (P.code v k)

include h hv in
theorem sqDist_real (k : Fin 4) : IsReal (P.sqDist v k) := (sqLen_real h hv k).add (score_real h hv k _)

end Net

/-- The reference's quantisation loss from the four sums `S k` of squared distances is the kernel's, which scales their sum:
    both terms of the loss have the same value, the second counted a quarter. -/
theorem loss_eq {S : Fin 4 → EReal} (hS : ∀ k, IsReal (S k)) (n : ℝ) (hn : n ≠ 0) :
    Ideal.div ((((((((0 + Ideal.div (S 0) n) + ((1 / 4 : ℝ) : EReal) * Ideal.div (S 0) n) + Ideal.div (S 1) n)
      + ((1 / 4 : ℝ) : EReal) * Ideal.div (S 1) n) + Ideal.div (S 2) n) + ((1 / 4 : ℝ) : EReal) * Ideal.div (S 2) n) + Ideal.div (S 3) n)
      + ((1 / 4 : ℝ) : EReal) * Ideal.div (S 3) n) ((4 : ℝ) : EReal)
      = Ideal.div (((5 / 4 : ℝ) : EReal) * ∑ k, S k) ((4 * n : ℝ) : EReal) := by
  choose s hs using hS
  simp only [hs, coe_sum, div_coe _ _ hn, zero_add, ← EReal.coe_mul, ← EReal.coe_add]
  rw [div_coe _ _ four_ne_zero, div_coe _ _ (mul_ne_zero four_ne_zero hn)]
  refine congrArg _ ?_
  rw [Fin.sum_univ_four]
  field_simp
  ring

end

end VQ
-- ==== Proof.Precondition.lean ====
module

public import proofs.«01_k».proof.Defs
public import proofs.«01_k».proof.Proof.Gen.Pre_finite
public import proofs.«01_k».proof.Proof.Gen.KernelIdeal
public import proofs.«01_k».proof.Proof.Model
public import proofs.«01_k».proof.Proof.Numbers
public import proofs.«01_k».proof.Proof.Reals

/-! # What the precondition says

An array all of whose entries are below infinity in magnitude holds real numbers. -/

@[expose] public section

open Idealize Idealize.ShloMosaic Idealize.ShloMosaic.TcCoe Idealize.SL.Sem
open Cert.Pre_finite

namespace VQ

theorem isReal_of_abs_lt {x : EReal} (h : max x (-x) < ⊤) : IsReal x := by
  induction x with
  | bot => simp at h
  | top => simp at h
  | coe r => exact ⟨r, rfl⟩

/-- One array's comparison, everywhere true. -/
theorem real_of_finite {s : Shape} (a : FVec Ideal s .f32) (hb : S_.BroadcastsInDim s (![] : Fin 0 → Fin s.rank))
    (h : cmpf .olt (Host.absf a) (broadcastInDim s ![] hb (constant S_ .f32 0x7F800000#32)) = fun _ => 1#1) (i : s.Idx) :
    IsReal (a i) := by
  have hi : Ideal.cmp .olt (max (a i) (-a i)) (Ideal.ofBits .f32 0x7F800000#32) = 1#1 := congrFun h i
  rw [bits_top] at hi
  exact isReal_of_abs_lt ((Ideal.cmp_olt_eq_one _ _).1 hi)

/-- Under the precondition the encoder and the codebooks are real, and so is the batch. -/
theorem real_of_pre (m : (ℓ : Loc Cert.KernelIdeal.nD Cert.KernelIdeal.τ Cert.KernelIdeal.sig) → Buf (Elt Ideal) ℓ)
    (h : Cert.Pre_KernelIdeal_finite m) (c : Dev Cert.KernelIdeal.nD) (u1 e1 u2 e2) :
    (model (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9)) u1 e1 u2 e2).Real
    ∧ ∀ b i, IsReal (batchRow (m ((c : Thread Cert.KernelIdeal.nD Cert.KernelIdeal.τ).loc Cert.KernelIdeal.main_arg0)) b i) := by
  obtain ⟨h0, h1, h2, h3, h4, h5, h6, h7, h8, h9⟩ := h c
  exact ⟨{ A1 := fun i j => real_of_finite _ _ h1 _
           a1 := fun j => real_of_finite _ _ h2 _
           A2 := fun i j => real_of_finite _ _ h3 _
           a2 := fun j => real_of_finite _ _ h4 _
           A3 := fun i j => real_of_finite _ _ h5 _
           a3 := fun j => real_of_finite _ _ h6 _
           T := fun k i e => real_of_finite _ _ h7 _
           t := fun k e => real_of_finite _ _ h8 _
           C := fun k i e => real_of_finite _ _ h9 _
           N := fun k i => rfl },
    fun b i => real_of_finite _ _ h0 _⟩

end VQ
-- ==== Proof.Kernel.Payload.lean ====
module

public import proofs.«01_k».proof.Proof.Gen.KernelIdeal.Frame
public import proofs.«01_k».proof.Proof.Spec
public import proofs.«01_k».proof.Proof.Numbers
public import Idealize.ShloMosaic.Lib.Pointwise
public import Idealize.ShloMosaic.Lib.SortNet.Extract

/-! # What the kernel's body computes from a block, element by element

The body handles the four tokens one after another with the same operations. The operations that do not depend on the
token (the least score, the code, the chosen codebook row, the squared lengths) are read once. -/

@[expose] public section

open Idealize Idealize.ShloMosaic Cert.KernelIdeal Cert.KernelIdeal.Gen
open scoped BigOperators

namespace VQ.Kernel

noncomputable section

/-- The minimum over all places, started from plus infinity, is the value at the first least place. -/
theorem fold_min_eq {n : ℕ} [NeZero n] (f : Fin n → EReal) :
    Finset.univ.fold min (⊤ : EReal) f = f (firstMin f) := by
  refine le_antisymm (Finset.fold_min_le _ |>.2 (.inr ⟨_, Finset.mem_univ _, le_rfl⟩)) ?_
  exact Finset.le_fold_min _ |>.2 ⟨le_top, fun j _ => (firstMin_spec f).1 j⟩

/-- The least of the places where `f` takes its minimum, every other place counting as 1024, is the first least place. -/
theorem fold_minsi_eq (f : Fin 1024 → EReal) :
    Finset.univ.fold IntOp.minsi (2147483647#32)
      (fun x => if f x = f (firstMin f) then BitVec.ofNat 32 x.val else 1024#32) = BitVec.ofNat 32 (firstMin f).val := by
  have hm := firstMin_spec f
  apply BitVec.eq_of_toInt_eq
  rw [← Finset.fold_hom (op := IntOp.minsi) (op' := min) (m := BitVec.toInt) fun a b => SortNet.toInt_minsi a b]
  have hval : ∀ x : Fin 1024, (if f x = f (firstMin f) then BitVec.ofNat 32 x.val else 1024#32).toInt
      = if f x = f (firstMin f) then (x.val : ℤ) else 1024 := fun x => by
    split
    · exact toInt_small (by omega)
    · rfl
  have hmax : (2147483647#32).toInt = 2147483647 := by decide
  have hc : (BitVec.ofNat 32 (firstMin f).val).toInt = (firstMin f).val := toInt_small (by omega)
  simp only [hval, hmax, hc]
  refine le_antisymm (Finset.fold_min_le _ |>.2 (.inr ⟨firstMin f, Finset.mem_univ _, ?_⟩)) ?_
  · rw [if_pos rfl]
  · refine Finset.le_fold_min _ |>.2 ⟨by omega, fun x _ => ?_⟩
    split
    · next h =>
      by_contra hx
      exact absurd h (ne_of_gt (hm.2 x (Fin.lt_def.2 (by omega))))
    · omega

/-- The least score of a row. -/
theorem least_apply (d : FVec Ideal S1024x1024 .f32) (r : Fin 1024) :
    k0_pay28 d (ix2 r 0) = d (ix2 r (firstMin fun i => d (ix2 r i))) := by
  pointwise [k0_pay28]
  rw [bits_top]
  exact fold_min_eq _

/-- The code of a row. -/
theorem code_apply (d : FVec Ideal S1024x1024 .f32) (r : Fin 1024) :
    k0_pay29 d (ix1 r) = BitVec.ofNat 32 (firstMin fun i => d (ix2 r i)).val := by
  pointwise [k0_pay29]
  simp only [least_apply]
  exact fold_minsi_eq fun i => d (ix2 r i)

/-- A product with the indicator of one row picks that row. -/
theorem pick (c : Fin 1024) (g : Fin 1024 → EReal) :
    ∑ x : Fin 1024, FloatOps.sitofp (F := Ideal) FTy.f32
      (BitVec.setWidth 32 (IntOp.cmpi CmpIPredicate.eq (BitVec.ofNat 32 x.val) (BitVec.ofNat 32 c.val))) * g x = g c := by
  rw [Finset.sum_eq_single c]
  · have h : IntOp.cmpi CmpIPredicate.eq (BitVec.ofNat 32 c.val) (BitVec.ofNat 32 c.val) = 1#1 := by simp [IntOp.cmpi]
    rw [h]
    change (((BitVec.setWidth 32 1#1).toInt : ℝ) : EReal) * _ = _
    rw [show (BitVec.setWidth 32 1#1).toInt = 1 from by decide]
    simp
  · intro b _ hb
    have h : IntOp.cmpi CmpIPredicate.eq (BitVec.ofNat 32 b.val) (BitVec.ofNat 32 c.val) = 0#1 := by
      have : BitVec.ofNat 32 b.val ≠ BitVec.ofNat 32 c.val := fun h => hb (Fin.ext (ofNat_inj (by omega) (by omega) h))
      simp only [IntOp.cmpi, beq_eq_false_iff_ne.2 this]; rfl
    rw [h]
    change (((BitVec.setWidth 32 0#1).toInt : ℝ) : EReal) * _ = _
    rw [show (BitVec.setWidth 32 0#1).toInt = 0 from by decide]
    simp
  · simp

/-- The chosen codebook row, as the body forms it for each token. -/
def row (d : FVec Ideal S1024x1024 .f32) (cb : Vec Ideal S1x1024x192 .f32) : FVec Ideal S1024x192 .f32 :=
  matmul dot_S1024x1024_S1024x192_S1024x192_1_0_0_1_n_n none
    (sitofp (F := Ideal) .f32 (extui 32 (cmpi .eq (iota .tc S1024x1024 32 [1] iota_S1024x1024_d1_w32)
      (broadcastTo S1024x1024 (shapeCast S1024x1 (k0_pay29 d) shapeCasts_S1024_S1024x1) broadcasts_S1024x1_S1024x1024)) natLt_1_32))
    (shapeCast S1024x192 cb shapeCasts_S1x1024x192_S1024x192 : FVec Ideal S1024x192 .f32) (constant S1024x192 .f32 0x00000000#32)

theorem row_apply (d : FVec Ideal S1024x1024 .f32) (cb : Vec Ideal S1x1024x192 .f32) (r : Fin 1024) (e : Fin 192) :
    row d cb (ix2 r e) = cb (ix3 0 (firstMin fun i => d (ix2 r i)) e) := by
  pointwise [row]
  simp only [code_apply]
  exact pick _ fun x => cb (ix3 0 x e)

/-- The squared lengths of a block of tokens and their least scores, added to what came before. -/
theorem sq_apply (v : Ideal .f32) (t : FVec Ideal S1024x192 .f32) (d : FVec Ideal S1024x1024 .f32) :
    k0_pay30 v t d = v + (∑ r, ∑ e, t (ix2 r e) * t (ix2 r e) + ∑ r, d (ix2 r (firstMin fun i => d (ix2 r i)))) := by
  pointwise [k0_pay30]
  simp only [Fin.sum_univ_one, least_apply]

/-! ## The body's own names for these -/

theorem pay9_eq (t : FVec Ideal S1024x192 .f32) (c : Vec Ideal S1x1024x192 .f32) (n : Vec Ideal S1x1024 .f32) :
    k0_pay9 t c n c = row (k0_pay6 t c n) c := rfl
theorem pay16_eq (t c : FVec Ideal S1024x192 .f32) (z : FVec Ideal S1024x1024 .f32) (n : Vec Ideal S1x1024 .f32) (c' : Vec Ideal S1x1024x192 .f32) :
    k0_pay16 t c z n c' = row (k0_pay13 t c z n) c' := rfl
theorem pay24_eq (s : FVec Ideal S1024x1024 .f32) (n : FVec Ideal S1x1024 .f32) (c : Vec Ideal S1x1024x192 .f32) :
    k0_pay24 s n c = row (k0_pay21 s n) c := rfl
theorem pay8_eq (t : FVec Ideal S1024x192 .f32) (c : Vec Ideal S1x1024x192 .f32) (n : Vec Ideal S1x1024 .f32) :
    k0_pay8 t c n = k0_pay29 (k0_pay6 t c n) := rfl
theorem pay15_eq (t c : FVec Ideal S1024x192 .f32) (z : FVec Ideal S1024x1024 .f32) (n : Vec Ideal S1x1024 .f32) :
    k0_pay15 t c z n = k0_pay29 (k0_pay13 t c z n) := rfl
theorem pay23_eq (s : FVec Ideal S1024x1024 .f32) (n : FVec Ideal S1x1024 .f32) :
    k0_pay23 s n = k0_pay29 (k0_pay21 s n) := rfl
theorem pay10_eq (t : FVec Ideal S1024x192 .f32) (c : Vec Ideal S1x1024x192 .f32) (n : Vec Ideal S1x1024 .f32) :
    k0_pay10 t c n = k0_pay30 (Scalar.ofBits .f32 0x00000000#32) t (k0_pay6 t c n) := rfl
theorem pay17_eq (v : Ideal .f32) (t c : FVec Ideal S1024x192 .f32) (z : FVec Ideal S1024x1024 .f32) (n : Vec Ideal S1x1024 .f32) :
    k0_pay17 v t c z n = k0_pay30 v t (k0_pay13 t c z n) := rfl
theorem pay25_eq (v : Ideal .f32) (t : FVec Ideal S1024x192 .f32) (s : FVec Ideal S1024x1024 .f32) (n : FVec Ideal S1x1024 .f32) :
    k0_pay25 v t s n = k0_pay30 v t (k0_pay21 s n) := rfl

end

end VQ.Kernel
-- ==== Proof.Kernel.Body.lean ====
module

public import proofs.«01_k».proof.Proof.Kernel.Payload
public import Idealize.ShloMosaic.Lib.Pipeline.ValueKit

/-! # The kernel's four results on a block of rows -/

@[expose] public section

open Idealize Idealize.ShloMosaic Cert.KernelIdeal Cert.KernelIdeal.Gen
open scoped BigOperators

namespace VQ.Kernel

noncomputable section

variable (x0 : Vec Ideal S1024x768 .f32) (x1 : Vec Ideal S768x512 .f32) (x2 : Vec Ideal S1x512 .f32)
  (x3 : Vec Ideal S512x256 .f32) (x4 : Vec Ideal S1x256 .f32) (x5 : Vec Ideal S256x128 .f32) (x6 : Vec Ideal S1x128 .f32)
  (x7 : Vec Ideal S128x1024 .f32) (x8 : Vec Ideal S1x1024 .f32) (x9 : Vec Ideal S4x1024x192 .f32) (x10 : Vec Ideal S4x1024 .f32)
  (x11 : Vec Ideal S768x512 .f32) (x12 : Vec Ideal S1x512 .f32) (x13 : Vec Ideal S512x768 .f32) (x14 : Vec Ideal S1x768 .f32)

/-- The parameters as the body finds them in its blocks: token `k` sits at the columns from `256 k` on. -/
def net : Net where
  A1 i j := x1 (ix2 i j)
  a1 j := x2 (ix2 0 j)
  A2 i j := x3 (ix2 i j)
  a2 j := x4 (ix2 0 j)
  A3 i j := x5 (ix2 i j)
  a3 j := x6 (ix2 0 j)
  T k i e := x7 (ix2 i ⟨256 * k.val + e.val, by omega⟩)
  t k e := x8 (ix2 0 ⟨256 * k.val + e.val, by omega⟩)
  C k i e := x9 (ix3 k i e)
  N k i := x10 (ix2 k i)
  D1 i j := x11 (ix2 i j)
  d1 j := x12 (ix2 0 j)
  D2 i j := x13 (ix2 i j)
  d2 j := x14 (ix2 0 j)

/-- Row `r` of the block. -/
def rowOf (r : Fin 1024) : Fin 768 → EReal := fun k => x0 (ix2 r k)

/-! ## Tokens and scores -/

/-- The encoder's output at the columns of token `k`. -/
theorem tokens_apply (r : Fin 1024) (k : Fin 4) (e : Fin 192) :
    k0_pay34 x0 x1 x2 x3 x4 x5 x6 x7 x8 x9 x10 x11 x12 x13 x14 (ix2 r ⟨256 * k.val + e.val, by omega⟩)
      = (net x1 x2 x3 x4 x5 x6 x7 x8 x9 x10 x11 x12 x13 x14).token (rowOf x0 r) k e := by
  pointwise [k0_pay34, k0_pay4]
  rfl

theorem token0 (r : Fin 1024) (e : Fin 192) :
    k0_pay35 x0 x1 x2 x3 x4 x5 x6 x7 x8 x9 x10 x11 x12 x13 x14 (ix2 r e) = (net x1 x2 x3 x4 x5 x6 x7 x8 x9 x10 x11 x12 x13 x14).token (rowOf x0 r) 0 e := by
  rw [← tokens_apply]
  pointwise [k0_pay35, k0_pay5]
  rfl

theorem token1 (r : Fin 1024) (e : Fin 192) :
    k0_pay38 x0 x1 x2 x3 x4 x5 x6 x7 x8 x9 x10 x11 x12 x13 x14 (ix2 r e) = (net x1 x2 x3 x4 x5 x6 x7 x8 x9 x10 x11 x12 x13 x14).token (rowOf x0 r) 1 e := by
  rw [← tokens_apply]
  pointwise [k0_pay38, k0_pay11]

theorem token2 (r : Fin 1024) (e : Fin 192) :
    k0_pay18 (k0_pay34 x0 x1 x2 x3 x4 x5 x6 x7 x8 x9 x10 x11 x12 x13 x14) (ix2 r e) = (net x1 x2 x3 x4 x5 x6 x7 x8 x9 x10 x11 x12 x13 x14).token (rowOf x0 r) 2 e := by
  rw [← tokens_apply]
  pointwise [k0_pay18]

theorem token3 (r : Fin 1024) (e : Fin 192) :
    k0_pay26 (k0_pay34 x0 x1 x2 x3 x4 x5 x6 x7 x8 x9 x10 x11 x12 x13 x14) (ix2 r e) = (net x1 x2 x3 x4 x5 x6 x7 x8 x9 x10 x11 x12 x13 x14).token (rowOf x0 r) 3 e := by
  rw [← tokens_apply]
  pointwise [k0_pay26]

theorem score0 (r i : Fin 1024) :
    k0_pay6 (k0_pay35 x0 x1 x2 x3 x4 x5 x6 x7 x8 x9 x10 x11 x12 x13 x14) (View.ld x9 r0_9) (View.ld x10 r0_10) (ix2 r i)
      = (net x1 x2 x3 x4 x5 x6 x7 x8 x9 x10 x11 x12 x13 x14).score (rowOf x0 r) 0 i := by
  pointwise [k0_pay6]
  simp only [token0, bits_two]
  rfl

theorem score1 (r i : Fin 1024) :
    k0_pay13 (k0_pay38 x0 x1 x2 x3 x4 x5 x6 x7 x8 x9 x10 x11 x12 x13 x14) (k0_pay39 x0 x1 x2 x3 x4 x5 x6 x7 x8 x9 x10 x11 x12 x13 x14) (k0_pay36 x0 x1 x2 x3 x4 x5 x6 x7 x8 x9 x10 x11 x12 x13 x14) (View.ld x10 r0_12) (ix2 r i)
      = (net x1 x2 x3 x4 x5 x6 x7 x8 x9 x10 x11 x12 x13 x14).score (rowOf x0 r) 1 i := by
  pointwise [k0_pay13, k0_pay39, k0_pay36, k0_pay12]
  simp only [token1, bits_two]
  rfl

theorem score2 (r i : Fin 1024) :
    k0_pay21 (k0_pay41 x0 x1 x2 x3 x4 x5 x6 x7 x8 x9 x10 x11 x12 x13 x14) (k0_pay42 x0 x1 x2 x3 x4 x5 x6 x7 x8 x9 x10 x11 x12 x13 x14) (ix2 r i)
      = (net x1 x2 x3 x4 x5 x6 x7 x8 x9 x10 x11 x12 x13 x14).score (rowOf x0 r) 2 i := by
  pointwise [k0_pay21, k0_pay41, k0_pay42, k0_pay19, k0_pay20]
  simp only [token2, bits_two]
  rfl

theorem score3 (r i : Fin 1024) :
    k0_pay44 x0 x1 x2 x3 x4 x5 x6 x7 x8 x9 x10 x11 x12 x13 x14 (ix2 r i)
      = (net x1 x2 x3 x4 x5 x6 x7 x8 x9 x10 x11 x12 x13 x14).score (rowOf x0 r) 3 i := by
  pointwise [k0_pay44, k0_pay27]
  simp only [token3, bits_two]
  rfl

/-! ## The chosen codebook rows -/

/-- The body's last token is handled like the others. -/
theorem pay31_eq (a b c : FVec Ideal S1024x192 .f32) (d : FVec Ideal S1024x1024 .f32) (cb : Vec Ideal S1x1024x192 .f32) :
    k0_pay31 a b c d cb = concatenate S1024x768 1 [⟨S1024x192, a⟩, ⟨S1024x192, b⟩, ⟨S1024x192, c⟩, ⟨S1024x192, row d cb⟩]
      concatenates_S1024x192_S1024x192_S1024x192_S1024x192_S1024x768_d1 := rfl

theorem row0 (r : Fin 1024) (e : Fin 192) :
    k0_pay37 x0 x1 x2 x3 x4 x5 x6 x7 x8 x9 x10 x11 x12 x13 x14 (ix2 r e)
      = (net x1 x2 x3 x4 x5 x6 x7 x8 x9 x10 x11 x12 x13 x14).C 0 ((net x1 x2 x3 x4 x5 x6 x7 x8 x9 x10 x11 x12 x13 x14).code (rowOf x0 r) 0) e := by
  rw [k0_pay37, pay9_eq, row_apply]
  simp only [score0]
  pointwise
  rfl

theorem row1 (r : Fin 1024) (e : Fin 192) :
    k0_pay40 x0 x1 x2 x3 x4 x5 x6 x7 x8 x9 x10 x11 x12 x13 x14 (ix2 r e)
      = (net x1 x2 x3 x4 x5 x6 x7 x8 x9 x10 x11 x12 x13 x14).C 1 ((net x1 x2 x3 x4 x5 x6 x7 x8 x9 x10 x11 x12 x13 x14).code (rowOf x0 r) 1) e := by
  rw [k0_pay40, pay16_eq, row_apply]
  simp only [score1]
  pointwise
  rfl

theorem row2 (r : Fin 1024) (e : Fin 192) :
    k0_pay43 x0 x1 x2 x3 x4 x5 x6 x7 x8 x9 x10 x11 x12 x13 x14 (ix2 r e)
      = (net x1 x2 x3 x4 x5 x6 x7 x8 x9 x10 x11 x12 x13 x14).C 2 ((net x1 x2 x3 x4 x5 x6 x7 x8 x9 x10 x11 x12 x13 x14).code (rowOf x0 r) 2) e := by
  rw [k0_pay43, pay24_eq, row_apply]
  simp only [score2]
  pointwise
  rfl

theorem row3 (r : Fin 1024) (e : Fin 192) :
    row (k0_pay44 x0 x1 x2 x3 x4 x5 x6 x7 x8 x9 x10 x11 x12 x13 x14) (View.ld x9 r0_15) (ix2 r e)
      = (net x1 x2 x3 x4 x5 x6 x7 x8 x9 x10 x11 x12 x13 x14).C 3 ((net x1 x2 x3 x4 x5 x6 x7 x8 x9 x10 x11 x12 x13 x14).code (rowOf x0 r) 3) e := by
  rw [row_apply]
  simp only [score3]
  pointwise
  rfl

/-- The four rows laid end to end. -/
theorem rows_apply (r : Fin 1024) (j : Fin 768) :
    k0_pay31 (k0_pay37 x0 x1 x2 x3 x4 x5 x6 x7 x8 x9 x10 x11 x12 x13 x14) (k0_pay40 x0 x1 x2 x3 x4 x5 x6 x7 x8 x9 x10 x11 x12 x13 x14) (k0_pay43 x0 x1 x2 x3 x4 x5 x6 x7 x8 x9 x10 x11 x12 x13 x14) (k0_pay44 x0 x1 x2 x3 x4 x5 x6 x7 x8 x9 x10 x11 x12 x13 x14) (View.ld x9 r0_15) (ix2 r j)
      = (net x1 x2 x3 x4 x5 x6 x7 x8 x9 x10 x11 x12 x13 x14).chosen (rowOf x0 r) j := by
  pointwise [pay31_eq]
  by_cases h0 : j.val < 192
  · rw [dif_pos h0, row0]; exact (Net.chosen_eq _ _ (by simp)).symm
  rw [dif_neg h0]
  by_cases h1 : j.val - 192 < 192
  · rw [dif_pos h1, row1]; exact (Net.chosen_eq _ _ (by simp; omega)).symm
  rw [dif_neg h1]
  by_cases h2 : j.val - 192 - 192 < 192
  · rw [dif_pos h2, row2]; exact (Net.chosen_eq _ _ (by simp; omega)).symm
  · rw [dif_neg h2, row3]; exact (Net.chosen_eq _ _ (by simp; omega)).symm

/-! ## The results

Each is stored once, over the whole of its block. -/

/-- The codes. -/
theorem codes_apply (r : Fin 1024) (k : Fin 4) :
    out0_17 x0 x1 x2 x3 x4 x5 x6 x7 x8 x9 x10 x11 x12 x13 x14 (ix2 r k)
      = BitVec.ofNat 32 ((net x1 x2 x3 x4 x5 x6 x7 x8 x9 x10 x11 x12 x13 x14).code (rowOf x0 r) k).val := by
  rw [out0_17, View.canon_cons_unit_lit _ _ _ (by decide)]
  pointwise [k0_pay2, pay8_eq, pay15_eq, pay23_eq]
  simp only [code_apply, score0, score1, score2, score3]
  fin_cases k <;> rfl

/-- The chosen codebook rows. -/
theorem chosen_apply (r : Fin 1024) (j : Fin 768) :
    out0_16 x0 x1 x2 x3 x4 x5 x6 x7 x8 x9 x10 x11 x12 x13 x14 (ix2 r j) = (net x1 x2 x3 x4 x5 x6 x7 x8 x9 x10 x11 x12 x13 x14).chosen (rowOf x0 r) j := by
  rw [out0_16, View.canon_cons_unit_lit _ _ _ (by decide)]
  exact rows_apply ..

/-- The decoder's output, before it is stored. -/
theorem pay1_apply (r : Fin 1024) (j : Fin 768) :
    k0_pay1 (k0_pay45 x0 x1 x2 x3 x4 x5 x6 x7 x8 x9 x10 x11 x12 x13 x14) (k0_pay46 x0 x1 x2 x3 x4 x5 x6 x7 x8 x9 x10 x11 x12 x13 x14) (ix2 r j) = (net x1 x2 x3 x4 x5 x6 x7 x8 x9 x10 x11 x12 x13 x14).decoded (rowOf x0 r) j := by
  pointwise [k0_pay1, k0_pay45, k0_pay46, k0_pay32, k0_pay33]
  simp only [rows_apply]
  rfl

/-- The decoder's output. -/
theorem decoded_apply (r : Fin 1024) (j : Fin 768) :
    out0_15 x0 x1 x2 x3 x4 x5 x6 x7 x8 x9 x10 x11 x12 x13 x14 (ix2 r j) = (net x1 x2 x3 x4 x5 x6 x7 x8 x9 x10 x11 x12 x13 x14).decoded (rowOf x0 r) j := by
  rw [out0_15, View.canon_cons_unit_lit _ _ _ (by decide)]
  exact pay1_apply ..

/-- The block's share of the squared reconstruction error. -/
theorem recErr_apply :
    out0_18 x0 x1 x2 x3 x4 x5 x6 x7 x8 x9 x10 x11 x12 x13 x14 (ix3 0 0 0) = ∑ r, (net x1 x2 x3 x4 x5 x6 x7 x8 x9 x10 x11 x12 x13 x14).recErr (rowOf x0 r) := by
  rw [out0_18, View.canon_cons_unit_lit _ _ _ (by decide)]
  pointwise [k0_pay3]
  simp only [pay1_apply]
  rfl

/-- The block's share of the squared distances between tokens and chosen rows. -/
theorem quantErr_apply :
    out0_18 x0 x1 x2 x3 x4 x5 x6 x7 x8 x9 x10 x11 x12 x13 x14 (ix3 0 0 1)
      = ∑ k, (∑ r, (net x1 x2 x3 x4 x5 x6 x7 x8 x9 x10 x11 x12 x13 x14).sqLen (rowOf x0 r) k + ∑ r, (net x1 x2 x3 x4 x5 x6 x7 x8 x9 x10 x11 x12 x13 x14).score (rowOf x0 r) k ((net x1 x2 x3 x4 x5 x6 x7 x8 x9 x10 x11 x12 x13 x14).code (rowOf x0 r) k)) := by
  rw [out0_18, View.canon_cons_unit_lit _ _ _ (by decide)]
  pointwise [k0_pay3]
  simp only [pay10_eq, pay17_eq, pay25_eq, sq_apply, score0, score1, score2, score3, token0, token1, token2, token3, Fin.sum_univ_four]
  rw [show (FloatOps.ofBits (F := Ideal) FTy.f32 0#32 : EReal) = 0 from Ideal.ofBits_zero_f32, zero_add]
  rfl

end

end VQ.Kernel
-- ==== Proof.Kernel.Blocks.lean ====
module

public import proofs.«01_k».proof.Proof.Kernel.Body
public import proofs.«01_k».proof.Proof.Model
public import Idealize.ShloMosaic.Lib.Pipeline.Value

/-! # The kernel's arrays

What the launch finds in its blocks, in terms of the arguments, and what it leaves in its four result arrays. -/

@[expose] public section

open Cert.KernelIdeal Cert.KernelIdeal.Gen Idealize.ShloMosaic Idealize.ShloMosaic.TcCoe Idealize.SL.Sem
open Idealize.ShloMosaic.Pipeline (Dat)
open scoped BigOperators

namespace VQ.Kernel

noncomputable section

variable (m : (ℓ : Loc nD τ sig) → Buf (Elt Ideal) ℓ) (c : Dev nD)

/-! ## What the host computes before the launch -/

/-- Reads one result of the host's lines before the launch. -/
theorem V_eq (b : Ref sig .tc) : V m c b = StableHlo.after (List.flatten [hostOps0]) (fun b => m (c, b)) (Proc.devRef .tc b) := rfl

theorem v14_apply (j : Fin 512) : (V m c main_v14 : FVec Ideal S1x512 .f32) (ix2 0 j) = m ((c : Thread nD τ).loc main_arg2) (ix1 j) := by
  have h : (V m c main_v14 : FVec Ideal S1x512 .f32) = shapeCast _ (m ((c : Thread nD τ).loc main_arg2)) shapeCasts_S512_S1x512 := by
    rw [V_eq]
    simp only [Gen.hostOps0, List.flatten_cons, List.flatten_nil, List.append_nil, List.cons_append, List.nil_append]
    after_results <;> rfl
  rw [h]
  pointwise

theorem v15_apply (j : Fin 256) : (V m c main_v15 : FVec Ideal S1x256 .f32) (ix2 0 j) = m ((c : Thread nD τ).loc main_arg4) (ix1 j) := by
  have h : (V m c main_v15 : FVec Ideal S1x256 .f32) = shapeCast _ (m ((c : Thread nD τ).loc main_arg4)) shapeCasts_S256_S1x256 := by
    rw [V_eq]
    simp only [Gen.hostOps0, List.flatten_cons, List.flatten_nil, List.append_nil, List.cons_append, List.nil_append]
    after_results <;> rfl
  rw [h]
  pointwise

theorem v16_apply (j : Fin 128) : (V m c main_v16 : FVec Ideal S1x128 .f32) (ix2 0 j) = m ((c : Thread nD τ).loc main_arg6) (ix1 j) := by
  have h : (V m c main_v16 : FVec Ideal S1x128 .f32) = shapeCast _ (m ((c : Thread nD τ).loc main_arg6)) shapeCasts_S128_S1x128 := by
    rw [V_eq]
    simp only [Gen.hostOps0, List.flatten_cons, List.flatten_nil, List.append_nil, List.cons_append, List.nil_append]
    after_results <;> rfl
  rw [h]
  pointwise

theorem v18_apply (j : Fin 512) : (V m c main_v18 : FVec Ideal S1x512 .f32) (ix2 0 j) = m ((c : Thread nD τ).loc main_arg11) (ix1 j) := by
  have h : (V m c main_v18 : FVec Ideal S1x512 .f32) = shapeCast _ (m ((c : Thread nD τ).loc main_arg11)) shapeCasts_S512_S1x512 := by
    rw [V_eq]
    simp only [Gen.hostOps0, List.flatten_cons, List.flatten_nil, List.append_nil, List.cons_append, List.nil_append]
    after_results <;> rfl
  rw [h]
  pointwise

theorem v19_apply (j : Fin 768) : (V m c main_v19 : FVec Ideal S1x768 .f32) (ix2 0 j) = m ((c : Thread nD τ).loc main_arg13) (ix1 j) := by
  have h : (V m c main_v19 : FVec Ideal S1x768 .f32) = shapeCast _ (m ((c : Thread nD τ).loc main_arg13)) shapeCasts_S768_S1x768 := by
    rw [V_eq]
    simp only [Gen.hostOps0, List.flatten_cons, List.flatten_nil, List.append_nil, List.cons_append, List.nil_append]
    after_results <;> rfl
  rw [h]
  pointwise

/-- The codebooks the kernel is given. -/
abbrev books : FVec Ideal S4x1024x192 .f32 := m ((c : Thread nD τ).loc main_arg9)

/-- The squared lengths of the codebook rows, as the launch is handed them. -/
abbrev lengths : FVec Ideal S4x1024 .f32 := V m c main_v13

theorem v13_apply (k : Fin 4) (i : Fin 1024) : lengths m c (ix2 k i)
    = ∑ e : Fin 192, books m c (ix3 k i e) * books m c (ix3 k i e) := by
  have h : lengths m c = Host.reduceAdd (mulf (books m c) (books m c)) (constant S_ .f32 0x00000000#32) reducesTo_S4x1024x192_S4x1024_d2 h_S_ := by
    unfold lengths; rw [V_eq]
    simp only [Gen.hostOps0, List.flatten_cons, List.flatten_nil, List.append_nil, List.cons_append, List.nil_append]
    after_results <;> rfl
  rw [h]
  pointwise

/-- The fourth layer's columns, each token's 192 followed by 64 of zeros. -/
theorem v6_apply (i : Fin 128) (k : Fin 4) (e : Fin 192) : (V m c main_v6 : FVec Ideal S128x1024 .f32) (ix2 i ⟨256 * k.val + e.val, by omega⟩)
    = m ((c : Thread nD τ).loc main_arg7) (ix2 i ⟨192 * k.val + e.val, by omega⟩) := by
  have h : (V m c main_v6 : FVec Ideal S128x1024 .f32) = concatenate S128x1024 1 [⟨S128x192, extractStridedSlice S128x192 ![0, 0] (m ((c : Thread nD τ).loc main_arg7) : FVec Ideal S128x768 .f32) slices_S128x768_S128x192_0_0⟩, ⟨S128x64, (broadcastInDim S128x64 ![] bcast_S_S128x64 (constant S_ .f32 0x00000000#32) : FVec Ideal S128x64 .f32)⟩, ⟨S128x192, extractStridedSlice S128x192 ![0, 192] (m ((c : Thread nD τ).loc main_arg7) : FVec Ideal S128x768 .f32) slices_S128x768_S128x192_0_192⟩, ⟨S128x64, (broadcastInDim S128x64 ![] bcast_S_S128x64 (constant S_ .f32 0x00000000#32) : FVec Ideal S128x64 .f32)⟩, ⟨S128x192, extractStridedSlice S128x192 ![0, 384] (m ((c : Thread nD τ).loc main_arg7) : FVec Ideal S128x768 .f32) slices_S128x768_S128x192_0_384⟩, ⟨S128x64, (broadcastInDim S128x64 ![] bcast_S_S128x64 (constant S_ .f32 0x00000000#32) : FVec Ideal S128x64 .f32)⟩, ⟨S128x192, extractStridedSlice S128x192 ![0, 576] (m ((c : Thread nD τ).loc main_arg7) : FVec Ideal S128x768 .f32) slices_S128x768_S128x192_0_576⟩, ⟨S128x64, (broadcastInDim S128x64 ![] bcast_S_S128x64 (constant S_ .f32 0x00000000#32) : FVec Ideal S128x64 .f32)⟩] concatenates_S128x192_S128x64_S128x192_S128x64_S128x192_S128x64_S128x192_S128x64_S128x1024_d1 := by
    rw [V_eq]
    simp only [Gen.hostOps0, List.flatten_cons, List.flatten_nil, List.append_nil, List.cons_append, List.nil_append]
    after_results <;> rfl
  rw [h]
  fin_cases k <;> pointwise <;> simp (disch := omega) only [dif_pos, dif_neg]
  all_goals exact congrArg (m ((c : Thread nD τ).loc main_arg7)) (congrArg (ix2 i) (Fin.ext (by dsimp only; omega)))

/-- The fourth layer's bias, padded the same way. -/
theorem v17_apply (k : Fin 4) (e : Fin 192) : (V m c main_v17 : FVec Ideal S1x1024 .f32) (ix2 0 ⟨256 * k.val + e.val, by omega⟩)
    = m ((c : Thread nD τ).loc main_arg8) (ix1 ⟨192 * k.val + e.val, by omega⟩) := by
  have h : (V m c main_v17 : FVec Ideal S1x1024 .f32) = shapeCast _ (concatenate S1024 0 [⟨S192, extractStridedSlice S192 ![0] (m ((c : Thread nD τ).loc main_arg8) : FVec Ideal S768 .f32) slices_S768_S192_0⟩, ⟨S64, (broadcastInDim S64 ![] bcast_S_S64 (constant S_ .f32 0x00000000#32) : FVec Ideal S64 .f32)⟩, ⟨S192, extractStridedSlice S192 ![192] (m ((c : Thread nD τ).loc main_arg8) : FVec Ideal S768 .f32) slices_S768_S192_192⟩, ⟨S64, (broadcastInDim S64 ![] bcast_S_S64 (constant S_ .f32 0x00000000#32) : FVec Ideal S64 .f32)⟩, ⟨S192, extractStridedSlice S192 ![384] (m ((c : Thread nD τ).loc main_arg8) : FVec Ideal S768 .f32) slices_S768_S192_384⟩, ⟨S64, (broadcastInDim S64 ![] bcast_S_S64 (constant S_ .f32 0x00000000#32) : FVec Ideal S64 .f32)⟩, ⟨S192, extractStridedSlice S192 ![576] (m ((c : Thread nD τ).loc main_arg8) : FVec Ideal S768 .f32) slices_S768_S192_576⟩, ⟨S64, (broadcastInDim S64 ![] bcast_S_S64 (constant S_ .f32 0x00000000#32) : FVec Ideal S64 .f32)⟩] concatenates_S192_S64_S192_S64_S192_S64_S192_S64_S1024_d0) shapeCasts_S1024_S1x1024 := by
    rw [V_eq]
    simp only [Gen.hostOps0, List.flatten_cons, List.flatten_nil, List.append_nil, List.cons_append, List.nil_append]
    after_results <;> rfl
  rw [h]
  fin_cases k <;> pointwise <;> simp (disch := omega) only [dif_pos, dif_neg]
  all_goals exact congrArg (m ((c : Thread nD τ).loc main_arg8)) (congrArg ix1 (Fin.ext (by dsimp only; omega)))

/-! ## The blocks -/

/-- Block `t` of the batch holds the rows from `1024 t` on. -/
theorem block0 (t : Fin 16) (r : Fin 1024) (j : Fin 768) :
    iblk m c 0 t (ix2 r j) = V m c main_arg0 (ix2 ⟨1024 * t.val + r.val, by omega⟩ j) := by
  refine congrArg (V m c main_arg0) (Shape.idx_ext₂ ?_ ?_)
  · refine (Pipeline.Window.rect_emb_val win0_0 t (ix2 r j) 0).trans ?_
    rw [(by decide +kernel : ∀ t : Fin grid0.N, win0_0.index t 0 = t.val) t]
    show t.val * 1024 + r.val = 1024 * t.val + r.val
    omega
  · exact Pipeline.Window.rect_emb_val_of_index_zero win0_0 t 1 ((by decide +kernel : ∀ t : Fin grid0.N, win0_0.index t 1 = 0) t) _

/-! Every other input is one block, the whole array. -/

theorem block1 (t : Fin cfg0.N) : iblk m c 1 t = V m c main_arg1 :=
  funext fun y => congrArg (V m c main_arg1) (funext fun a => Fin.ext
    (Pipeline.Window.rect_emb_val_of_index_zero win0_1 t a ((by decide +kernel : ∀ (t : Fin grid0.N) a, win0_1.index t a = 0) t a) y))

theorem block2 (t : Fin cfg0.N) : iblk m c 2 t = V m c main_v14 :=
  funext fun y => congrArg (V m c main_v14) (funext fun a => Fin.ext
    (Pipeline.Window.rect_emb_val_of_index_zero win0_2 t a ((by decide +kernel : ∀ (t : Fin grid0.N) a, win0_2.index t a = 0) t a) y))

theorem block3 (t : Fin cfg0.N) : iblk m c 3 t = V m c main_arg3 :=
  funext fun y => congrArg (V m c main_arg3) (funext fun a => Fin.ext
    (Pipeline.Window.rect_emb_val_of_index_zero win0_3 t a ((by decide +kernel : ∀ (t : Fin grid0.N) a, win0_3.index t a = 0) t a) y))

theorem block4 (t : Fin cfg0.N) : iblk m c 4 t = V m c main_v15 :=
  funext fun y => congrArg (V m c main_v15) (funext fun a => Fin.ext
    (Pipeline.Window.rect_emb_val_of_index_zero win0_4 t a ((by decide +kernel : ∀ (t : Fin grid0.N) a, win0_4.index t a = 0) t a) y))

theorem block5 (t : Fin cfg0.N) : iblk m c 5 t = V m c main_arg5 :=
  funext fun y => congrArg (V m c main_arg5) (funext fun a => Fin.ext
    (Pipeline.Window.rect_emb_val_of_index_zero win0_5 t a ((by decide +kernel : ∀ (t : Fin grid0.N) a, win0_5.index t a = 0) t a) y))

theorem block6 (t : Fin cfg0.N) : iblk m c 6 t = V m c main_v16 :=
  funext fun y => congrArg (V m c main_v16) (funext fun a => Fin.ext
    (Pipeline.Window.rect_emb_val_of_index_zero win0_6 t a ((by decide +kernel : ∀ (t : Fin grid0.N) a, win0_6.index t a = 0) t a) y))

theorem block7 (t : Fin cfg0.N) : iblk m c 7 t = V m c main_v6 :=
  funext fun y => congrArg (V m c main_v6) (funext fun a => Fin.ext
    (Pipeline.Window.rect_emb_val_of_index_zero win0_7 t a ((by decide +kernel : ∀ (t : Fin grid0.N) a, win0_7.index t a = 0) t a) y))

theorem block8 (t : Fin cfg0.N) : iblk m c 8 t = V m c main_v17 :=
  funext fun y => congrArg (V m c main_v17) (funext fun a => Fin.ext
    (Pipeline.Window.rect_emb_val_of_index_zero win0_8 t a ((by decide +kernel : ∀ (t : Fin grid0.N) a, win0_8.index t a = 0) t a) y))

theorem block9 (t : Fin cfg0.N) : iblk m c 9 t = V m c main_arg9 :=
  funext fun y => congrArg (V m c main_arg9) (funext fun a => Fin.ext
    (Pipeline.Window.rect_emb_val_of_index_zero win0_9 t a ((by decide +kernel : ∀ (t : Fin grid0.N) a, win0_9.index t a = 0) t a) y))

theorem block10 (t : Fin cfg0.N) : iblk m c 10 t = V m c main_v13 :=
  funext fun y => congrArg (V m c main_v13) (funext fun a => Fin.ext
    (Pipeline.Window.rect_emb_val_of_index_zero win0_10 t a ((by decide +kernel : ∀ (t : Fin grid0.N) a, win0_10.index t a = 0) t a) y))

theorem block11 (t : Fin cfg0.N) : iblk m c 11 t = V m c main_arg10 :=
  funext fun y => congrArg (V m c main_arg10) (funext fun a => Fin.ext
    (Pipeline.Window.rect_emb_val_of_index_zero win0_11 t a ((by decide +kernel : ∀ (t : Fin grid0.N) a, win0_11.index t a = 0) t a) y))

theorem block12 (t : Fin cfg0.N) : iblk m c 12 t = V m c main_v18 :=
  funext fun y => congrArg (V m c main_v18) (funext fun a => Fin.ext
    (Pipeline.Window.rect_emb_val_of_index_zero win0_12 t a ((by decide +kernel : ∀ (t : Fin grid0.N) a, win0_12.index t a = 0) t a) y))

theorem block13 (t : Fin cfg0.N) : iblk m c 13 t = V m c main_arg12 :=
  funext fun y => congrArg (V m c main_arg12) (funext fun a => Fin.ext
    (Pipeline.Window.rect_emb_val_of_index_zero win0_13 t a ((by decide +kernel : ∀ (t : Fin grid0.N) a, win0_13.index t a = 0) t a) y))

theorem block14 (t : Fin cfg0.N) : iblk m c 14 t = V m c main_v19 :=
  funext fun y => congrArg (V m c main_v19) (funext fun a => Fin.ext
    (Pipeline.Window.rect_emb_val_of_index_zero win0_14 t a ((by decide +kernel : ∀ (t : Fin grid0.N) a, win0_14.index t a = 0) t a) y))

/-- The network held by the arguments. -/
def memNet : Net := model (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Row `b` of the batch the kernel is given. -/
abbrev memRow (b : Fin 16384) : Fin 768 → EReal := batchRow (m ((c : Thread nD τ).loc main_arg0)) b

/-- The network the body finds in its blocks is the one held by the arguments. -/
theorem net_blocks (t : Fin cfg0.N) : net (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) = memNet m c := by
  rw [block1, block2, block3, block4, block5, block6, block7, block8, block9, block10, block11, block12, block13, block14, V_main_arg1, V_main_arg3, V_main_arg5, V_main_arg9, V_main_arg10, V_main_arg12]
  unfold net memNet model
  congr 1
  · exact funext fun j => v14_apply m c j
  · exact funext fun j => v15_apply m c j
  · exact funext fun j => v16_apply m c j
  · exact funext fun k => funext fun i => funext fun e => v6_apply m c i k e
  · exact funext fun k => funext fun e => v17_apply m c k e
  · exact funext fun k => funext fun i => v13_apply m c k i
  · exact funext fun j => v18_apply m c j
  · exact funext fun j => v19_apply m c j

theorem rowOf_block (t : Fin 16) (r : Fin 1024) : rowOf (iblk m c 0 t) r = memRow m c ⟨1024 * t.val + r.val, by omega⟩ := by
  funext j
  rw [rowOf, block0, V_main_arg0]
  rfl

/-! ## The result arrays -/

theorem array15 (t : Fin 16) (r : Fin 1024) (j : Fin 768) :
    (dats m 0 c).arrAt 15 cfg0.N (ix2 ⟨1024 * t.val + r.val, by omega⟩ j) = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  have hinj : ∀ t t' : Fin grid0.N, win0_15.index t = win0_15.index t' → t = t' := by decide +kernel
  have h := (dats m 0 c).arrAt_emb_eq_flushed 15 (fun t t' _ _ hne => (cfg0.win 15).disjoint_blk fun h => hne (hinj t t' h)) t
    ((by decide +kernel : ∀ t : Fin grid0.N, win0_15.flush t = true) t) (ix2 r j)
  have he : ((cfg0.win 15).blk t).view.emb (ix2 r j) = ix2 ⟨1024 * t.val + r.val, by omega⟩ j := by
    refine Shape.idx_ext₂ ?_ ?_
    · refine (Pipeline.Window.rect_emb_val win0_15 t (ix2 r j) 0).trans ?_
      rw [(by decide +kernel : ∀ t : Fin grid0.N, win0_15.index t 0 = t.val) t]
      show t.val * 1024 + r.val = 1024 * t.val + r.val
      omega
    · exact Pipeline.Window.rect_emb_val_of_index_zero win0_15 t 1 ((by decide +kernel : ∀ t : Fin grid0.N, win0_15.index t 1 = 0) t) _
  rw [he] at h
  exact h.trans (congrFun (after0_15 m c t) _)

theorem array16 (t : Fin 16) (r : Fin 1024) (j : Fin 768) :
    (dats m 0 c).arrAt 16 cfg0.N (ix2 ⟨1024 * t.val + r.val, by omega⟩ j) = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  have hinj : ∀ t t' : Fin grid0.N, win0_16.index t = win0_16.index t' → t = t' := by decide +kernel
  have h := (dats m 0 c).arrAt_emb_eq_flushed 16 (fun t t' _ _ hne => (cfg0.win 16).disjoint_blk fun h => hne (hinj t t' h)) t
    ((by decide +kernel : ∀ t : Fin grid0.N, win0_16.flush t = true) t) (ix2 r j)
  have he : ((cfg0.win 16).blk t).view.emb (ix2 r j) = ix2 ⟨1024 * t.val + r.val, by omega⟩ j := by
    refine Shape.idx_ext₂ ?_ ?_
    · refine (Pipeline.Window.rect_emb_val win0_16 t (ix2 r j) 0).trans ?_
      rw [(by decide +kernel : ∀ t : Fin grid0.N, win0_16.index t 0 = t.val) t]
      show t.val * 1024 + r.val = 1024 * t.val + r.val
      omega
    · exact Pipeline.Window.rect_emb_val_of_index_zero win0_16 t 1 ((by decide +kernel : ∀ t : Fin grid0.N, win0_16.index t 1 = 0) t) _
  rw [he] at h
  exact h.trans (congrFun (after0_16 m c t) _)

theorem array17 (t : Fin 16) (r : Fin 1024) (j : Fin 4) :
    (dats m 0 c).arrAt 17 cfg0.N (ix2 ⟨1024 * t.val + r.val, by omega⟩ j) = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  have hinj : ∀ t t' : Fin grid0.N, win0_17.index t = win0_17.index t' → t = t' := by decide +kernel
  have h := (dats m 0 c).arrAt_emb_eq_flushed 17 (fun t t' _ _ hne => (cfg0.win 17).disjoint_blk fun h => hne (hinj t t' h)) t
    ((by decide +kernel : ∀ t : Fin grid0.N, win0_17.flush t = true) t) (ix2 r j)
  have he : ((cfg0.win 17).blk t).view.emb (ix2 r j) = ix2 ⟨1024 * t.val + r.val, by omega⟩ j := by
    refine Shape.idx_ext₂ ?_ ?_
    · refine (Pipeline.Window.rect_emb_val win0_17 t (ix2 r j) 0).trans ?_
      rw [(by decide +kernel : ∀ t : Fin grid0.N, win0_17.index t 0 = t.val) t]
      show t.val * 1024 + r.val = 1024 * t.val + r.val
      omega
    · exact Pipeline.Window.rect_emb_val_of_index_zero win0_17 t 1 ((by decide +kernel : ∀ t : Fin grid0.N, win0_17.index t 1 = 0) t) _
  rw [he] at h
  exact h.trans (congrFun (after0_17 m c t) _)

theorem array18 (t : Fin 16) (s : Fin 2) :
    (dats m 0 c).arrAt 18 cfg0.N (ix3 t 0 s) = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 0 s) := by
  have hinj : ∀ t t' : Fin grid0.N, win0_18.index t = win0_18.index t' → t = t' := by decide +kernel
  have h := (dats m 0 c).arrAt_emb_eq_flushed 18 (fun t t' _ _ hne => (cfg0.win 18).disjoint_blk fun h => hne (hinj t t' h)) t
    ((by decide +kernel : ∀ t : Fin grid0.N, win0_18.flush t = true) t) (ix3 0 0 s)
  have he : ((cfg0.win 18).blk t).view.emb (ix3 0 0 s) = ix3 t 0 s := by
    funext a
    refine Fin.ext ?_
    match a with
    | ⟨0, _⟩ =>
      refine (Pipeline.Window.rect_emb_val win0_18 t (ix3 0 0 s) 0).trans ?_
      rw [(by decide +kernel : ∀ t : Fin grid0.N, win0_18.index t 0 = t.val) t]
      show t.val * 1 + 0 = t.val
      omega
    | ⟨1, _⟩ => exact Pipeline.Window.rect_emb_val_of_index_zero win0_18 t 1 ((by decide +kernel : ∀ t : Fin grid0.N, win0_18.index t 1 = 0) t) _
    | ⟨2, _⟩ => exact Pipeline.Window.rect_emb_val_of_index_zero win0_18 t 2 ((by decide +kernel : ∀ t : Fin grid0.N, win0_18.index t 2 = 0) t) _
  rw [he] at h
  exact h.trans (congrFun (after0_18 m c t) _)

/-! ## The result arrays, by the network -/

theorem decoded_array (t : Fin 16) (r : Fin 1024) (j : Fin 768) :
    (dats m 0 c).arrAt 15 cfg0.N (ix2 ⟨1024 * t.val + r.val, by omega⟩ j)
      = (memNet m c).decoded (memRow m c ⟨1024 * t.val + r.val, by omega⟩) j := by
  rw [array15, decoded_apply]
  exact congrArg₂ (fun P v => Net.decoded P v j) (net_blocks m c t) (rowOf_block m c t r)

theorem chosen_array (t : Fin 16) (r : Fin 1024) (j : Fin 768) :
    (dats m 0 c).arrAt 16 cfg0.N (ix2 ⟨1024 * t.val + r.val, by omega⟩ j)
      = (memNet m c).chosen (memRow m c ⟨1024 * t.val + r.val, by omega⟩) j := by
  rw [array16, chosen_apply]
  exact congrArg₂ (fun P v => Net.chosen P v j) (net_blocks m c t) (rowOf_block m c t r)

theorem codes_array (t : Fin 16) (r : Fin 1024) (k : Fin 4) :
    (dats m 0 c).arrAt 17 cfg0.N (ix2 ⟨1024 * t.val + r.val, by omega⟩ k)
      = BitVec.ofNat 32 ((memNet m c).code (memRow m c ⟨1024 * t.val + r.val, by omega⟩) k).val := by
  rw [array17, codes_apply]
  exact congrArg₂ (fun P v => BitVec.ofNat 32 (Net.code P v k).val) (net_blocks m c t) (rowOf_block m c t r)

/-- The array of the blocks' two error sums. -/
def errors : FVec Ideal S16x1x2 .f32 := (dats m 0 c).arrAt 18 cfg0.N

theorem recErr_array (t : Fin 16) :
    errors m c (ix3 t 0 0)
      = ∑ r : Fin 1024, (memNet m c).recErr (memRow m c ⟨1024 * t.val + r.val, by omega⟩) := by
  rw [errors, array18, recErr_apply]
  exact Finset.sum_congr rfl fun r _ => congrArg₂ Net.recErr (net_blocks m c t) (rowOf_block m c t r)

theorem quantErr_array (t : Fin 16) :
    errors m c (ix3 t 0 1)
      = ∑ k, (∑ r : Fin 1024, (memNet m c).sqLen (memRow m c ⟨1024 * t.val + r.val, by omega⟩) k
          + ∑ r : Fin 1024, (memNet m c).score (memRow m c ⟨1024 * t.val + r.val, by omega⟩) k
              ((memNet m c).code (memRow m c ⟨1024 * t.val + r.val, by omega⟩) k)) := by
  rw [errors, array18, quantErr_apply]
  refine Finset.sum_congr rfl fun k _ => congrArg₂ (· + ·) (Finset.sum_congr rfl fun r _ => ?_) (Finset.sum_congr rfl fun r _ => ?_)
  · exact congrArg₂ (fun P v => Net.sqLen P v k) (net_blocks m c t) (rowOf_block m c t r)
  · exact congrArg₂ (fun P v => Net.score P v k (Net.code P v k)) (net_blocks m c t) (rowOf_block m c t r)

end

end VQ.Kernel
-- ==== Proof.Losses.lean ====
module

public import proofs.«01_k».proof.Proof.Reals

/-! # The two losses of a batch

Means over all 16384 × 768 numbers, the quantisation loss counted one and a quarter times. The kernel adds its sums tile by
tile, sixteen tiles of 1024 rows. -/

@[expose] public section

open Idealize Idealize.ShloMosaic
open scoped BigOperators

namespace VQ

noncomputable section

variable (P : Net) (x : Fin 16384 → Fin 768 → EReal)

/-- The mean squared reconstruction error. -/
def recLoss : EReal := Ideal.div (∑ b, P.recErr (x b)) ((12582912 : ℝ) : EReal)

/-- The quantisation loss. -/
def pqLoss : EReal := Ideal.div (((5 / 4 : ℝ) : EReal) * ∑ k, ∑ b, P.sqDist (x b) k) ((12582912 : ℝ) : EReal)

/-- Row `r` of tile `t`. -/
def tileRow (t : Fin 16) (r : Fin 1024) : Fin 16384 := ⟨1024 * t.val + r.val, by omega⟩

/-- Every row is a row of some tile. -/
theorem exists_tileRow (b : Fin 16384) : ∃ t r, b = tileRow t r :=
  ⟨⟨b.val / 1024, by omega⟩, ⟨b.val % 1024, by omega⟩, Fin.ext (by show b.val = 1024 * (b.val / 1024) + b.val % 1024; omega)⟩

/-- A sum over the batch, tile by tile. -/
theorem sum_tiles (f : Fin 16384 → EReal) : ∑ t, ∑ r, f (tileRow t r) = ∑ b, f b := by
  rw [Fin.sum_univ_tiles 16 1024 rfl f]
  refine Finset.sum_congr rfl fun t _ => Finset.sum_congr rfl fun r _ => congrArg f (Fin.ext ?_)
  simp [tileRow, Nat.mul_comm]

theorem recLoss_tiles : Ideal.div (∑ t, ∑ r, P.recErr (x (tileRow t r))) ((12582912 : ℝ) : EReal) = recLoss P x := by
  rw [sum_tiles fun b => P.recErr (x b), recLoss]

theorem pqLoss_tiles :
    Ideal.div (((5 / 4 : ℝ) : EReal) * ∑ t, ∑ k, (∑ r, P.sqLen (x (tileRow t r)) k
      + ∑ r, P.score (x (tileRow t r)) k (P.code (x (tileRow t r)) k))) ((12582912 : ℝ) : EReal) = pqLoss P x := by
  rw [pqLoss, Finset.sum_comm]
  refine congrArg (fun s => Ideal.div (((5 / 4 : ℝ) : EReal) * s) _) (Finset.sum_congr rfl fun k _ => ?_)
  rw [← sum_tiles fun b => P.sqDist (x b) k]
  exact Finset.sum_congr rfl fun t _ => Finset.sum_add_distrib.symm

end

end VQ
-- ==== Proof.Kernel.Results.lean ====
module

public import proofs.«01_k».proof.Proof.Kernel.Blocks
public import proofs.«01_k».proof.Proof.Numbers
public import proofs.«01_k».proof.Proof.Losses

/-! # The kernel's six results

What the host makes of the launch's four arrays: it adds the tiles' error sums and scales them, and gives the chosen rows
the shape of tokens. -/

@[expose] public section

open Cert.KernelIdeal Cert.KernelIdeal.Gen Idealize Idealize.ShloMosaic Idealize.ShloMosaic.TcCoe Idealize.SL.Sem
open scoped BigOperators

namespace VQ.Kernel

noncomputable section

variable (m : (ℓ : Loc nD τ sig) → Buf (Elt Ideal) ℓ) (c : Dev nD)

/-- The reconstruction loss from the tiles' sums. -/
abbrev recResult (d : FVec Ideal S16x1x2 .f32) : FVec Ideal S_ .f32 :=
  Host.divf (shapeCast _ (extractStridedSlice S1 ![0] (Host.reduceAdd (shapeCast _ d shapeCasts_S16x1x2_S16x2) (constant S_ .f32 0x00000000#32) reducesTo_S16x2_S2_d0 h_S_) slices_S2_S1_0) shapeCasts_S1_S_) (constant S_ .f32 0x4B400000#32)

/-- The quantisation loss from the tiles' sums. -/
abbrev pqResult (d : FVec Ideal S16x1x2 .f32) : FVec Ideal S_ .f32 :=
  Host.divf (mulf (constant S_ .f32 0x3FA00000#32) (shapeCast _ (extractStridedSlice S1 ![1] (Host.reduceAdd (shapeCast _ d shapeCasts_S16x1x2_S16x2) (constant S_ .f32 0x00000000#32) reducesTo_S16x2_S2_d0 h_S_) slices_S2_S1_1) shapeCasts_S1_S_)) (constant S_ .f32 0x4B400000#32)

theorem recResult_apply (d : FVec Ideal S16x1x2 .f32) (j : S_.Idx) :
    recResult d j = Ideal.div (∑ t, d (ix3 t 0 0)) ((12582912 : ℝ) : EReal) := by
  rw [← bits_batchCount]
  revert j
  refine congrFun ?_
  funext j
  pointwise [recResult]

theorem pqResult_apply (d : FVec Ideal S16x1x2 .f32) (j : S_.Idx) :
    pqResult d j = Ideal.div (((5 / 4 : ℝ) : EReal) * ∑ t, d (ix3 t 0 1)) ((12582912 : ℝ) : EReal) := by
  rw [← bits_batchCount, ← bits_five_quarters]
  revert j
  refine congrFun ?_
  funext j
  pointwise [pqResult]

theorem recResult_eq (j : S_.Idx) : recResult (errors m c) j = recLoss (memNet m c) (memRow m c) := by
  rw [recResult_apply, ← recLoss_tiles]
  exact div_congr (Finset.sum_congr rfl fun t _ => recErr_array m c t)

theorem pqResult_eq (j : S_.Idx) : pqResult (errors m c) j = pqLoss (memNet m c) (memRow m c) := by
  rw [pqResult_apply, ← pqLoss_tiles]
  exact div_congr (congrArg (_ * ·) (Finset.sum_congr rfl fun t _ => quantErr_array m c t))

/-- The launch's array of reconstructions. -/
def decodedArr : FVec Ideal S16384x768 .f32 := (dats m 0 c).arrAt 15 cfg0.N

/-- The launch's array of chosen rows. -/
def chosenArr : FVec Ideal S16384x768 .f32 := (dats m 0 c).arrAt 16 cfg0.N

/-- The launch's array of codes. -/
def codesArr : IVec S16384x4 32 := (dats m 0 c).arrAt 17 cfg0.N

theorem decodedArr_apply (b : Fin 16384) (j : Fin 768) :
    decodedArr m c (ix2 b j) = (memNet m c).decoded (memRow m c b) j := by
  obtain ⟨t, r, rfl⟩ := exists_tileRow b
  exact decoded_array m c t r j

theorem codesArr_apply (b : Fin 16384) (k : Fin 4) :
    codesArr m c (ix2 b k) = BitVec.ofNat 32 ((memNet m c).code (memRow m c b) k).val := by
  obtain ⟨t, r, rfl⟩ := exists_tileRow b
  exact codes_array m c t r k

/-- The chosen rows in the shape of tokens. -/
abbrev tokensArr : FVec Ideal S16384x4x192 .f32 := shapeCast _ (chosenArr m c) shapeCasts_S16384x768_S16384x4x192

theorem tokensArr_apply (b : Fin 16384) (k : Fin 4) (e : Fin 192) :
    tokensArr m c (ix3 b k e) = (memNet m c).C k ((memNet m c).code (memRow m c b) k) e := by
  have h : tokensArr m c (ix3 b k e) = chosenArr m c (ix2 b ⟨192 * k.val + e.val, by omega⟩) := by
    pointwise [tokensArr]
    exact congrArg (fun j => chosenArr m c (ix2 b j)) (Fin.ext (by dsimp only; omega))
  rw [h, ← Net.chosen_eq (memNet m c) (memRow m c b) (j := ⟨192 * k.val + e.val, by omega⟩) rfl]
  obtain ⟨t, r, rfl⟩ := exists_tileRow b
  exact chosen_array m c t r _

end

end VQ.Kernel
-- ==== Proof.Reference.ArgMin.lean ====
module

public import proofs.«01_k».proof.Proof.Gen.ReferenceIdeal
public import proofs.«01_k».proof.Proof.Spec
public import proofs.«01_k».proof.Proof.Numbers
public import Idealize.ShloMosaic.Lib.Pointwise

/-! # The reference's arg-min and its codebook lookups

The arg-min folds pairs of a value and an index; its step keeps the smaller pair in the lexicographic order, so the fold
ends at the least pair whatever the order of the folding. -/

@[expose] public section

open Idealize Idealize.ShloMosaic Cert.ReferenceIdeal Cert.ReferenceIdeal.Gen

namespace VQ.Reference

noncomputable section

/-- The order of the pairs: by value, then by index. -/
def Below (p q : EReal × BitVec 32) : Prop := p.1 < q.1 ∨ p.1 = q.1 ∧ p.2.toInt ≤ q.2.toInt

theorem Below.refl (p : EReal × BitVec 32) : Below p p := .inr ⟨rfl, le_rfl⟩

theorem Below.trans {p q r : EReal × BitVec 32} (h : Below p q) (h' : Below q r) : Below p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The step of the arg-min. -/
abbrev step : EReal × BitVec 32 → EReal × BitVec 32 → EReal × BitVec 32 := reducer_argmin_f32_i32 (F := Ideal)

/-- The step read by cases. -/
theorem step_eq (a b : EReal × BitVec 32) :
    step a b = if a.1 < b.1 then a else if a.1 = b.1 then (b.1, if a.2.slt b.2 then a.2 else b.2) else b := by
  show (Scalar.select (IntOp.ori (Ideal.cmp .olt a.1 b.1) (Ideal.cmp .une a.1 a.1)) a.1 b.1,
    Scalar.select (IntOp.ori (IntOp.ori (Ideal.cmp .olt a.1 b.1) (Ideal.cmp .une a.1 a.1))
      (IntOp.andi (Ideal.cmp .oeq a.1 b.1) (IntOp.cmpi .slt a.2 b.2))) a.2 b.2) = _
  by_cases h : a.1 < b.1
  · simp [h, Ideal.cmp, IntOp.ori, IntOp.andi, IntOp.cmpi, Scalar.select]
    cases (decide (a.1 = b.1)) <;> cases a.2.slt b.2 <;> simp
  · by_cases h' : a.1 = b.1
    · cases hs : a.2.slt b.2 <;> simp [h, h', hs, Ideal.cmp, IntOp.ori, IntOp.andi, IntOp.cmpi, Scalar.select]
    · simp [h, h', Ideal.cmp, IntOp.ori, IntOp.andi, IntOp.cmpi, Scalar.select]

/-- The step returns one of its pairs, and neither lies below it. -/
theorem step_spec (a b : EReal × BitVec 32) : (step a b = a ∨ step a b = b) ∧ Below (step a b) a ∧ Below (step a b) b := by
  rw [step_eq]
  by_cases h : a.1 < b.1
  · rw [if_pos h]; exact ⟨.inl rfl, .refl a, .inl h⟩
  rw [if_neg h]
  by_cases h' : a.1 = b.1
  · rw [if_pos h']
    by_cases hs : a.2.slt b.2 = true
    · have hlt : a.2.toInt < b.2.toInt := by simpa [BitVec.slt] using hs
      rw [if_pos hs]
      exact ⟨.inl (Prod.ext h'.symm rfl), .inr ⟨h'.symm, le_rfl⟩, .inr ⟨rfl, hlt.le⟩⟩
    · have hle : b.2.toInt ≤ a.2.toInt := by simpa [BitVec.slt] using hs
      rw [if_neg hs]
      exact ⟨.inr rfl, .inr ⟨h'.symm, hle⟩, .inr ⟨rfl, le_rfl⟩⟩
  · rw [if_neg h']
    exact ⟨.inr rfl, .inl (lt_of_le_of_ne (not_lt.1 h) (Ne.symm h')), .refl b⟩

/-- The fold ends at a pair it met, below every pair it met. -/
theorem foldl_spec (L : List (EReal × BitVec 32)) (p : EReal × BitVec 32) :
    L.foldl step p ∈ p :: L ∧ ∀ q ∈ p :: L, Below (L.foldl step p) q := by
  induction L generalizing p with
  | nil => exact ⟨List.mem_cons_self, fun q hq => by rw [List.mem_singleton.1 hq]; exact .refl p⟩
  | cons a L ih =>
    obtain ⟨hm, hb⟩ := ih (step p a)
    obtain ⟨hs, hp, ha⟩ := step_spec p a
    refine ⟨?_, fun q hq => ?_⟩
    · rcases List.mem_cons.1 hm with h | h
      · rcases hs with hs | hs
        · rw [List.foldl_cons, h, hs]; exact List.mem_cons_self
        · rw [List.foldl_cons, h, hs]; exact List.mem_cons_of_mem _ List.mem_cons_self
      · exact List.mem_cons_of_mem _ (List.mem_cons_of_mem _ h)
    · rcases List.mem_cons.1 hq with rfl | hq
      · exact (hb _ List.mem_cons_self).trans hp
      · rcases List.mem_cons.1 hq with rfl | hq
        · exact (hb _ List.mem_cons_self).trans ha
        · exact hb q (List.mem_cons_of_mem _ hq)

/-- The last axis dropped: the places over `(b, k)` are the `(b, k, i)`. -/
theorem drop_iff (s : S16384x4x1024.Idx) (b : Fin 16384) (k : Fin 4) :
    reducesTo_S16384x4x1024_S16384x4_d2.drop s = ix2 b k ↔ ∃ i : Fin 1024, s = ix3 b k i := by
  have h0 : (reducesTo_S16384x4x1024_S16384x4_d2.drop s 0 : ℕ) = s 0 := Shape.ReducesTo.drop_apply_val_of_eq _ s 0 0
  have h1 : (reducesTo_S16384x4x1024_S16384x4_d2.drop s 1 : ℕ) = s 1 := Shape.ReducesTo.drop_apply_val_of_eq _ s 1 1
  constructor
  · intro h
    rw [h] at h0 h1
    refine ⟨s 2, funext fun a => Fin.ext ?_⟩
    match a with
    | ⟨0, _⟩ => exact h0.symm
    | ⟨1, _⟩ => exact h1.symm
    | ⟨2, _⟩ => rfl
  · rintro ⟨i, rfl⟩
    exact Shape.idx_ext₂ h0 h1

/-- The arg-min over the last axis is the first place where the values are least. -/
theorem argmin_apply (d : FVec Ideal S16384x4x1024 .f32) (b : Fin 16384) (k : Fin 4) :
    (Host.argReduce (F := Ideal) reducer_argmin_f32_i32 d (iotaInDim S16384x4x1024 32 2) (constant S_ .f32 0x7F800000#32)
      (constantI S_ 32 0#32) reducesTo_S16384x4x1024_S16384x4_d2 h_S_ (ix2 b k)).2
      = BitVec.ofNat 32 (firstMin fun i => d (ix3 b k i)).val := by
  rw [Ideal.argReduce_eq_reduce2, Host.reduce2_eq_foldl_fiber]
  set L := Host.argReduceFiber d (iotaInDim S16384x4x1024 32 2) reducesTo_S16384x4x1024_S16384x4_d2 (ix2 b k) with hL
  have hmem : ∀ p, p ∈ L ↔ ∃ i : Fin 1024, p = (d (ix3 b k i), BitVec.ofNat 32 i.val) := fun p => by
    rw [hL, Host.argReduceFiber, List.mem_map]
    constructor
    · rintro ⟨n, hn, rfl⟩
      obtain ⟨i, hi⟩ := (drop_iff _ b k).1 (by simpa using (List.mem_filter.1 hn).2)
      exact ⟨i, by rw [hi]; rfl⟩
    · rintro ⟨i, rfl⟩
      refine ⟨Shape.rowMajor _ (ix3 b k i), List.mem_filter.2 ⟨List.mem_finRange _, ?_⟩, ?_⟩
      · rw [Equiv.symm_apply_apply]; exact decide_eq_true ((drop_iff _ b k).2 ⟨i, rfl⟩)
      · rw [Equiv.symm_apply_apply]; rfl
  have hinit : ((constant (F := Ideal) S_ .f32 0x7F800000#32) (Shape.Idx.first h_S_), (constantI S_ 32 0#32) (Shape.Idx.first h_S_))
      = ((⊤ : EReal), 0#32) := Prod.ext bits_top rfl
  rw [hinit]
  obtain ⟨hm, hb⟩ := foldl_spec L (⊤, 0#32)
  show (L.foldl step (⊤, 0#32)).2 = _
  set p := L.foldl step (⊤, 0#32)
  have hat : ∀ i : Fin 1024, Below p (d (ix3 b k i), BitVec.ofNat 32 i.val) :=
    fun i => hb _ (List.mem_cons_of_mem _ ((hmem _).2 ⟨i, rfl⟩))
  have hp : p ∈ L := by
    rcases List.mem_cons.1 hm with h | h
    · refine (hmem _).2 ⟨0, ?_⟩
      have h0 := hat 0
      rw [h] at h0 ⊢
      rcases h0 with h0 | ⟨h0, -⟩
      · exact absurd h0 not_top_lt
      · exact Prod.ext h0 rfl
    · exact h
  obtain ⟨i, hi⟩ := (hmem p).1 hp
  rw [hi] at hat ⊢
  have hfirst : IsFirstMin (fun i => d (ix3 b k i)) i := by
    refine ⟨fun j => ?_, fun j hj => ?_⟩
    · rcases hat j with h | ⟨h, -⟩
      · exact le_of_lt h
      · exact le_of_eq h
    · rcases hat j with h | ⟨-, h⟩
      · exact h
      · dsimp only at h
        rw [toInt_small (by omega), toInt_small (by omega)] at h
        have := Fin.lt_def.1 hj
        omega
  rw [← hfirst.eq]

/-- A lookup of one row of a codebook. -/
theorem gather_apply (x : S1024x192.Idx → EReal) (idx : IVec S16384x1 32) (b : Fin 16384) (e : Fin 192) (i : Fin 1024)
    (h : idx (ix2 b 0) = BitVec.ofNat 32 i.val) :
    Host.gather gather_S1024x192_S16384x1_S16384x192_1_0_n_n_0_1_1192 x idx (ix2 b e) = x (ix2 i e) := by
  set D := gather_S1024x192_S16384x1_S16384x192_1_0_n_n_0_1_1192
  unfold Host.gather
  refine congrArg x (Shape.idx_ext₂ ?_ ?_)
  · show D.start (ix2 b e) idx 0 + D.batchCoord (ix2 b e) 0 + D.offCoord (ix2 b e) 0 = i.val
    rw [D.batchCoord_eq_zero _ _ List.not_mem_nil,
      D.offCoord_eq_zero _ _ (fun h => ((GatherDims.mem_sKept _ _).mp h).1 (List.mem_singleton.mpr rfl))]
    unfold GatherDims.start
    rw [dif_pos (show (0 : Fin 2) ∈ D.startIndexMap from List.mem_singleton.mpr rfl)]
    have hsi : D.siIdx (ix2 b e) ⟨List.idxOf (0 : Fin 2) D.startIndexMap,
        List.idxOf_lt_length_iff.2 (List.mem_singleton.mpr rfl)⟩ = ix2 b 0 := by
      funext a; refine Fin.ext ?_
      match a with
      | ⟨0, _⟩ => rfl
      | ⟨1, _⟩ => rfl
    rw [hsi, h, toInt_small (by omega)]
    show min i.val 1023 + 0 + 0 = i.val
    omega
  · show D.start (ix2 b e) idx 1 + D.batchCoord (ix2 b e) 1 + D.offCoord (ix2 b e) 1 = e.val
    rw [D.batchCoord_eq_zero _ _ List.not_mem_nil]
    unfold GatherDims.start
    rw [dif_neg (show (1 : Fin 2) ∉ D.startIndexMap from fun h => by simpa using List.mem_singleton.1 h)]
    show 0 + 0 + e.val = e.val
    omega

end

end VQ.Reference
-- ==== Proof.Reference.Read.lean ====
module

public import proofs.«01_k».proof.Proof.Reference.Arrays
public import proofs.«01_k».proof.Proof.Reference.ArgMin
public import proofs.«01_k».proof.Proof.Model

/-! # The reference's arrays, element by element -/

@[expose] public section

open Idealize Idealize.ShloMosaic Idealize.ShloMosaic.TcCoe Idealize.SL.Sem Idealize.ShloMosaic.StableHlo
open Cert.ReferenceIdeal Cert.ReferenceIdeal.Gen
open scoped BigOperators

namespace VQ.Reference

noncomputable section

variable (V0 : Valuation τ sig (Elt Ideal))

/-- The network held by the reference's arguments. -/
def refNet : Net := model (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))

/-- Row `b` of the reference's batch. -/
abbrev refRow (b : Fin 16384) : Fin 768 → EReal := batchRow (V0 (Proc.devRef .tc main_arg0)) b

theorem tokens_apply (b : Fin 16384) (k : Fin 4) (e : Fin 192) :
    tokens V0 (ix3 b k e) = (refNet V0).token (refRow V0 b) k e := by
  have hj : ∀ h : k.val * 192 + e.val < 768, (⟨k.val * 192 + e.val, h⟩ : Fin 768) = ⟨192 * k.val + e.val, by omega⟩ :=
    fun _ => Fin.ext (by dsimp only; omega)
  pointwise [tokens]
  simp only [hj]
  rfl

theorem dists_apply (b : Fin 16384) (k : Fin 4) (i : Fin 1024) :
    dists V0 (ix3 b k i) = ((refNet V0).sqLen (refRow V0 b) k + (refNet V0).N k i)
      - ((2 : ℝ) : EReal) * ∑ e, (refNet V0).C k i e * (refNet V0).token (refRow V0 b) k e := by
  have h : dists V0 (ix3 b k i) = (∑ e : Fin 192, tokens V0 (ix3 b k e) * tokens V0 (ix3 b k e) + (refNet V0).N k i)
      - ((2 : ℝ) : EReal) * ∑ e : Fin 192, (refNet V0).C k i e * tokens V0 (ix3 b k e) := by
    pointwise [dists]
    rw [bits_two]
    rfl
  rw [h]
  simp only [tokens_apply]
  rfl

theorem leastPlaces_def (d : FVec Ideal S16384x4x1024 .f32) : leastPlaces d = fun j =>
    (Host.argReduce (F := Ideal) reducer_argmin_f32_i32 d (iotaInDim S16384x4x1024 32 2) (constant S_ .f32 0x7F800000#32)
      (constantI S_ 32 0#32) reducesTo_S16384x4x1024_S16384x4_d2 h_S_ j).2 := rfl

/-- The code the reference gives token `k` of row `b`. -/
def refCode (b : Fin 16384) (k : Fin 4) : Fin 1024 := firstMin fun i => dists V0 (ix3 b k i)

theorem codes_apply (b : Fin 16384) (k : Fin 4) : codes V0 (ix2 b k) = BitVec.ofNat 32 (refCode V0 b k).val :=
  (congrFun (leastPlaces_def (dists V0)) (ix2 b k)).trans (argmin_apply (dists V0) b k)

/-! ## The chosen rows -/

/-- A lookup finds the row that the code names: no code is negative. -/
theorem lookup_apply (x : FVec Ideal S1x1024x192 .f32) (c : IVec S16384x1 32) (b : Fin 16384) (e : Fin 192) (i : Fin 1024)
    (h : c (ix2 b 0) = BitVec.ofNat 32 i.val) : lookup x c (ix3 b 0 e) = x (ix3 0 i e) := by
  have hs : (BitVec.ofNat 32 i.val).slt 0#32 = false := by
    have h0 := toInt_small (k := i.val) (by omega)
    simp [BitVec.slt, h0]
  have hc : IntOp.cmpi .slt (BitVec.ofNat 32 i.val) 0#32 = 0#1 := by simp [IntOp.cmpi, hs]
  have hi : rowNumbers (shapeCast S16384 c shapeCasts_S16384x1_S16384) (ix2 b 0) = BitVec.ofNat 32 i.val := by
    pointwise
    rw [h, hc]
    rfl
  pointwise [lookup]
  rw [gather_apply _ _ b e i hi]
  pointwise

/-- Every token's row is the one of its codebook that its code names. -/
theorem pick_apply (x : FVec Ideal S4x1024x192 .f32) (c : IVec S16384x4 32) (b : Fin 16384) (row : Fin 4 → Fin 1024)
    (h : ∀ k, c (ix2 b k) = BitVec.ofNat 32 (row k).val) (k : Fin 4) (e : Fin 192) :
    pick x c (ix3 b k e) = x (ix3 k (row k) e) := by
  have hk := h k
  generalize row k = i at hk ⊢
  clear h
  fin_cases k <;> pointwise [pick, stack]
  all_goals
    rw [lookup_apply _ _ b e i (by pointwise; exact hk)]
    pointwise

theorem chosen_apply (b : Fin 16384) (k : Fin 4) (e : Fin 192) :
    chosen V0 (ix3 b k e) = (refNet V0).C k (refCode V0 b k) e :=
  pick_apply (books V0) (codes V0) b (refCode V0 b) (codes_apply V0 b) k e

theorem quantized_apply (b : Fin 16384) (k : Fin 4) (e : Fin 192) :
    quantized V0 (ix3 b k e) = tokens V0 (ix3 b k e) + ((refNet V0).C k (refCode V0 b k) e - tokens V0 (ix3 b k e)) := by
  rw [← chosen_apply]
  rfl

end

end VQ.Reference
-- ==== Proof.Reference.Losses.lean ====
module

public import proofs.«01_k».proof.Proof.Reference.Read
public import proofs.«01_k».proof.Proof.Numbers
public import proofs.«01_k».proof.Proof.Losses

/-! # The reference's results for real arguments -/

@[expose] public section

open Idealize Idealize.ShloMosaic Idealize.ShloMosaic.TcCoe Idealize.SL.Sem Idealize.ShloMosaic.StableHlo
open Cert.ReferenceIdeal Cert.ReferenceIdeal.Gen
open scoped BigOperators

namespace VQ.Reference

noncomputable section

variable (V0 : Valuation τ sig (Elt Ideal))

theorem batchMean_apply (d : FVec Ideal S16384x768 .f32) (j : S_.Idx) :
    batchMean d j = Ideal.div (∑ b, ∑ i, d (ix2 b i) * d (ix2 b i)) ((12582912 : ℝ) : EReal) := by
  rw [← bits_batchCount]
  revert j
  refine congrFun ?_
  funext j
  pointwise [batchMean]

theorem tokenMean_apply (d : FVec Ideal S16384x192 .f32) (j : S_.Idx) :
    tokenMean d j = Ideal.div (∑ b, ∑ i, d (ix2 b i) * d (ix2 b i)) ((3145728 : ℝ) : EReal) := by
  rw [← bits_tokenCount]
  revert j
  refine congrFun ?_
  funext j
  pointwise [tokenMean]

/-- The reconstruction, from whatever the reference takes for the quantised tokens. -/
theorem recon_lin (b : Fin 16384) (j : Fin 768) : recon V0 (ix2 b j)
    = lin (refNet V0).D2 (refNet V0).d2 (relu (lin (refNet V0).D1 (refNet V0).d1
        fun i => quantized V0 (ix3 b ⟨i / 192, by omega⟩ ⟨i % 192, by omega⟩))) j := by
  pointwise [recon]
  rfl

theorem diff_apply0 (b : Fin 16384) (e : Fin 192) :
    diff0 V0 (ix2 b e) = tokens V0 (ix3 b 0 e) - quantized V0 (ix3 b 0 e) := by
  pointwise [diff0]

theorem diff_apply1 (b : Fin 16384) (e : Fin 192) :
    diff1 V0 (ix2 b e) = tokens V0 (ix3 b 1 e) - quantized V0 (ix3 b 1 e) := by
  pointwise [diff1]

theorem diff_apply2 (b : Fin 16384) (e : Fin 192) :
    diff2 V0 (ix2 b e) = tokens V0 (ix3 b 2 e) - quantized V0 (ix3 b 2 e) := by
  pointwise [diff2]

theorem diff_apply3 (b : Fin 16384) (e : Fin 192) :
    diff3 V0 (ix2 b e) = tokens V0 (ix3 b 3 e) - quantized V0 (ix3 b 3 e) := by
  pointwise [diff3]

variable (hP : (refNet V0).Real) (hx : ∀ b i, IsReal (refRow V0 b i))

include hP hx

theorem refCode_eq (b : Fin 16384) (k : Fin 4) : refCode V0 b k = (refNet V0).code (refRow V0 b) k := by
  rw [← Net.code_eq hP (hx b) k, refCode]
  exact congrArg firstMin (funext fun i => dists_apply V0 b k i)

theorem codes_real (b : Fin 16384) (k : Fin 4) :
    codes V0 (ix2 b k) = BitVec.ofNat 32 ((refNet V0).code (refRow V0 b) k).val :=
  (codes_apply V0 b k).trans (congrArg (fun i : Fin 1024 => BitVec.ofNat 32 i.val) (refCode_eq V0 hP hx b k))

theorem quantized_real (b : Fin 16384) (k : Fin 4) (e : Fin 192) :
    quantized V0 (ix3 b k e) = (refNet V0).C k ((refNet V0).code (refRow V0 b) k) e := by
  rw [quantized_apply, refCode_eq V0 hP hx, tokens_apply]
  exact add_sub_self (Net.token_real hP (hx b) k e) (hP.C _ _ _)

theorem recon_real (b : Fin 16384) (j : Fin 768) : recon V0 (ix2 b j) = (refNet V0).decoded (refRow V0 b) j := by
  rw [recon_lin]
  simp only [quantized_real V0 hP hx]
  rfl

theorem batchMean_real (j : S_.Idx) :
    reconLoss V0 j = recLoss (refNet V0) (refRow V0) := by
  rw [reconLoss, batchMean_apply, recLoss]
  refine div_congr (Finset.sum_congr rfl fun b _ => Finset.sum_congr rfl fun i _ => ?_)
  have h : reconErr V0 (ix2 b i) = (refNet V0).decoded (refRow V0 b) i - refRow V0 b i := by
    rw [← recon_real V0 hP hx]
    rfl
  rw [h]

theorem tokenMean_real (k : Fin 4) (d : FVec Ideal S16384x192 .f32)
    (hd : ∀ b e, d (ix2 b e) = tokens V0 (ix3 b k e) - quantized V0 (ix3 b k e)) (j : S_.Idx) :
    tokenMean d j = Ideal.div (∑ b, (refNet V0).sqDist (refRow V0 b) k) ((3145728 : ℝ) : EReal) := by
  rw [tokenMean_apply]
  refine div_congr (Finset.sum_congr rfl fun b _ => ?_)
  rw [Net.sqDist, ← Net.sqDist_eq hP (hx b)]
  refine Finset.sum_congr rfl fun e _ => ?_
  rw [hd, tokens_apply, quantized_real V0 hP hx]

theorem quantLoss_real (j : S_.Idx) :
    vqLoss V0 j = pqLoss (refNet V0) (refRow V0) := by
  have h : ∀ d0 d1 d2 d3 : FVec Ideal S16384x192 .f32, quantLoss d0 d1 d2 d3 j
      = Ideal.div ((((((((0 + tokenMean d0 j) + ((1 / 4 : ℝ) : EReal) * tokenMean d0 j) + tokenMean d1 j)
        + ((1 / 4 : ℝ) : EReal) * tokenMean d1 j) + tokenMean d2 j) + ((1 / 4 : ℝ) : EReal) * tokenMean d2 j) + tokenMean d3 j)
        + ((1 / 4 : ℝ) : EReal) * tokenMean d3 j) ((4 : ℝ) : EReal) := by
    intro d0 d1 d2 d3
    rw [← bits_quarter, ← bits_four, ← Ideal.ofBits_zero_f32]
    rfl
  rw [vqLoss, h, tokenMean_real V0 hP hx 0 _ (diff_apply0 V0), tokenMean_real V0 hP hx 1 _ (diff_apply1 V0),
    tokenMean_real V0 hP hx 2 _ (diff_apply2 V0), tokenMean_real V0 hP hx 3 _ (diff_apply3 V0), pqLoss]
  have hn : ((12582912 : ℝ) : EReal) = ((4 * 3145728 : ℝ) : EReal) := by norm_num
  rw [hn]
  exact loss_eq (S := fun k => ∑ b, (refNet V0).sqDist (refRow V0 b) k)
    (fun k => .sum fun b => Net.sqDist_real hP (hx b) k) 3145728 (by norm_num)

end

end VQ.Reference
-- ==== Proof.Agree.lean ====
module

public import proofs.«01_k».proof.Proof.Precondition
public import proofs.«01_k».proof.Proof.Kernel.Results
public import proofs.«01_k».proof.Proof.Reference.Losses

/-! # The two programs' results agree

Started from the same arguments, real wherever the precondition asks, both programs hold the same network and the same
batch, and so give the same six results. -/

@[expose] public section

open Idealize Idealize.ShloMosaic Idealize.ShloMosaic.TcCoe Idealize.SL.Sem Idealize.ShloMosaic.StableHlo
open scoped BigOperators

namespace VQ

noncomputable section

/-- Equal parameter arrays hold equal networks. -/
theorem model_congr {w1 w1' : (⟨2, ![768, 512]⟩ : Shape).Idx → EReal} {b1 b1' : (⟨1, ![512]⟩ : Shape).Idx → EReal}
    {w2 w2' : (⟨2, ![512, 256]⟩ : Shape).Idx → EReal} {b2 b2' : (⟨1, ![256]⟩ : Shape).Idx → EReal}
    {w3 w3' : (⟨2, ![256, 128]⟩ : Shape).Idx → EReal} {b3 b3' : (⟨1, ![128]⟩ : Shape).Idx → EReal}
    {w4 w4' : (⟨2, ![128, 768]⟩ : Shape).Idx → EReal} {b4 b4' : (⟨1, ![768]⟩ : Shape).Idx → EReal}
    {cb cb' : (⟨3, ![4, 1024, 192]⟩ : Shape).Idx → EReal}
    {u1 u1' : (⟨2, ![768, 512]⟩ : Shape).Idx → EReal} {e1 e1' : (⟨1, ![512]⟩ : Shape).Idx → EReal}
    {u2 u2' : (⟨2, ![512, 768]⟩ : Shape).Idx → EReal} {e2 e2' : (⟨1, ![768]⟩ : Shape).Idx → EReal}
    (h1 : w1 = w1') (h2 : b1 = b1') (h3 : w2 = w2') (h4 : b2 = b2') (h5 : w3 = w3') (h6 : b3 = b3') (h7 : w4 = w4')
    (h8 : b4 = b4') (h9 : cb = cb') (h10 : u1 = u1') (h11 : e1 = e1') (h12 : u2 = u2') (h13 : e2 = e2') :
    model w1 b1 w2 b2 w3 b3 w4 b4 cb u1 e1 u2 e2 = model w1' b1' w2' b2' w3' b3' w4' b4' cb' u1' e1' u2' e2' := by
  subst h1 h2 h3 h4 h5 h6 h7 h8 h9 h10 h11 h12 h13
  rfl

section

variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal)) (c : Dev Cert.KernelIdeal.nD)

/-- The reference starts from the kernel's arguments. -/
structure SameArgs : Prop where
  arg0 : V0 (Proc.devRef .tc Cert.ReferenceIdeal.main_arg0) = m ((c : Thread Cert.KernelIdeal.nD Cert.KernelIdeal.τ).loc Cert.KernelIdeal.main_arg0)
  arg1 : V0 (Proc.devRef .tc Cert.ReferenceIdeal.main_arg1) = m ((c : Thread Cert.KernelIdeal.nD Cert.KernelIdeal.τ).loc Cert.KernelIdeal.main_arg1)
  arg2 : V0 (Proc.devRef .tc Cert.ReferenceIdeal.main_arg2) = m ((c : Thread Cert.KernelIdeal.nD Cert.KernelIdeal.τ).loc Cert.KernelIdeal.main_arg2)
  arg3 : V0 (Proc.devRef .tc Cert.ReferenceIdeal.main_arg3) = m ((c : Thread Cert.KernelIdeal.nD Cert.KernelIdeal.τ).loc Cert.KernelIdeal.main_arg3)
  arg4 : V0 (Proc.devRef .tc Cert.ReferenceIdeal.main_arg4) = m ((c : Thread Cert.KernelIdeal.nD Cert.KernelIdeal.τ).loc Cert.KernelIdeal.main_arg4)
  arg5 : V0 (Proc.devRef .tc Cert.ReferenceIdeal.main_arg5) = m ((c : Thread Cert.KernelIdeal.nD Cert.KernelIdeal.τ).loc Cert.KernelIdeal.main_arg5)
  arg6 : V0 (Proc.devRef .tc Cert.ReferenceIdeal.main_arg6) = m ((c : Thread Cert.KernelIdeal.nD Cert.KernelIdeal.τ).loc Cert.KernelIdeal.main_arg6)
  arg7 : V0 (Proc.devRef .tc Cert.ReferenceIdeal.main_arg7) = m ((c : Thread Cert.KernelIdeal.nD Cert.KernelIdeal.τ).loc Cert.KernelIdeal.main_arg7)
  arg8 : V0 (Proc.devRef .tc Cert.ReferenceIdeal.main_arg8) = m ((c : Thread Cert.KernelIdeal.nD Cert.KernelIdeal.τ).loc Cert.KernelIdeal.main_arg8)
  arg9 : V0 (Proc.devRef .tc Cert.ReferenceIdeal.main_arg9) = m ((c : Thread Cert.KernelIdeal.nD Cert.KernelIdeal.τ).loc Cert.KernelIdeal.main_arg9)
  arg10 : V0 (Proc.devRef .tc Cert.ReferenceIdeal.main_arg10) = m ((c : Thread Cert.KernelIdeal.nD Cert.KernelIdeal.τ).loc Cert.KernelIdeal.main_arg10)
  arg11 : V0 (Proc.devRef .tc Cert.ReferenceIdeal.main_arg11) = m ((c : Thread Cert.KernelIdeal.nD Cert.KernelIdeal.τ).loc Cert.KernelIdeal.main_arg11)
  arg12 : V0 (Proc.devRef .tc Cert.ReferenceIdeal.main_arg12) = m ((c : Thread Cert.KernelIdeal.nD Cert.KernelIdeal.τ).loc Cert.KernelIdeal.main_arg12)
  arg13 : V0 (Proc.devRef .tc Cert.ReferenceIdeal.main_arg13) = m ((c : Thread Cert.KernelIdeal.nD Cert.KernelIdeal.τ).loc Cert.KernelIdeal.main_arg13)

variable {m V0 c} (h : SameArgs m V0 c) (hpre : Cert.Pre_KernelIdeal_finite m)

include h

theorem net_eq : Reference.refNet V0 = Kernel.memNet m c :=
  model_congr h.arg1 h.arg2 h.arg3 h.arg4 h.arg5 h.arg6 h.arg7 h.arg8 h.arg9 h.arg10 h.arg11 h.arg12 h.arg13

theorem row_eq : Reference.refRow V0 = Kernel.memRow m c := congrArg batchRow h.arg0

include hpre

theorem net_real : (Reference.refNet V0).Real := by
  rw [net_eq h]
  exact (real_of_pre m hpre c _ _ _ _).1

theorem row_real (b : Fin 16384) (i : Fin 768) : IsReal (Reference.refRow V0 b i) := by
  rw [row_eq h]
  exact (real_of_pre m hpre c (fun _ => 0) (fun _ => 0) (fun _ => 0) fun _ => 0).2 b i

theorem codes_agree : Reference.codes V0 = Kernel.codesArr m c := by
  funext j
  rw [eq_ix2 j]
  refine (Reference.codes_real V0 (net_real h hpre) (row_real h hpre) _ _).trans ?_
  rw [net_eq h, row_eq h]
  exact (Kernel.codesArr_apply m c _ _).symm

theorem tokens_agree : Reference.quantized V0 = Kernel.tokensArr m c := by
  funext j
  rw [eq_ix3 j]
  refine (Reference.quantized_real V0 (net_real h hpre) (row_real h hpre) _ _ _).trans ?_
  rw [net_eq h, row_eq h]
  exact (Kernel.tokensArr_apply m c _ _ _).symm

theorem recon_agree : Reference.recon V0 = Kernel.decodedArr m c := by
  funext j
  rw [eq_ix2 j]
  refine (Reference.recon_real V0 (net_real h hpre) (row_real h hpre) _ _).trans ?_
  rw [net_eq h, row_eq h]
  exact (Kernel.decodedArr_apply m c _ _).symm

theorem recLoss_agree : Reference.reconLoss V0 = Kernel.recResult (Kernel.errors m c) := by
  funext j
  refine (Reference.batchMean_real V0 (net_real h hpre) (row_real h hpre) j).trans ?_
  rw [net_eq h, row_eq h]
  exact (Kernel.recResult_eq m c j).symm

theorem pqLoss_agree : Reference.vqLoss V0 = Kernel.pqResult (Kernel.errors m c) := by
  funext j
  refine (Reference.quantLoss_real V0 (net_real h hpre) (row_real h hpre) j).trans ?_
  rw [net_eq h, row_eq h]
  exact (Kernel.pqResult_eq m c j).symm

end

end

end VQ
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Run
public import proofs.«01_k».proof.Proof.Gen.ReferenceIdeal
public import proofs.«01_k».proof.Proof.Gen.Pre_finite
public import proofs.«01_k».proof.Proof.Reference.Run
public import proofs.«01_k».proof.Proof.Agree
public import Idealize.ShloMosaic.Adequacy
public import Idealize.ShloMosaic.Init

/-! # The kernel computes its reference

Both programs end with their arguments unchanged and every counter at zero, and where the inputs, the encoder and the
codebooks are finite they give the same six results over the extended reals. -/

@[expose] public section

noncomputable section

namespace Cert.Proof

open Idealize.ShloMosaic Idealize.ShloMosaic.TcCoe Idealize.SL.Sem Idealize.ShloMosaic.StableHlo

/-- The reference's frame: it has no semaphores. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5)
        ∧ r.2.mem ((c.tc : Thread ReferenceIdeal.nD ReferenceIdeal.τ).loc ReferenceIdeal.main_arg6) = m ((c.tc : Thread ReferenceIdeal.nD ReferenceIdeal.τ).loc ReferenceIdeal.main_arg6)
        ∧ r.2.mem ((c.tc : Thread ReferenceIdeal.nD ReferenceIdeal.τ).loc ReferenceIdeal.main_arg7) = m ((c.tc : Thread ReferenceIdeal.nD ReferenceIdeal.τ).loc ReferenceIdeal.main_arg7)
        ∧ r.2.mem ((c.tc : Thread ReferenceIdeal.nD ReferenceIdeal.τ).loc ReferenceIdeal.main_arg8) = m ((c.tc : Thread ReferenceIdeal.nD ReferenceIdeal.τ).loc ReferenceIdeal.main_arg8)
        ∧ r.2.mem ((c.tc : Thread ReferenceIdeal.nD ReferenceIdeal.τ).loc ReferenceIdeal.main_arg9) = m ((c.tc : Thread ReferenceIdeal.nD ReferenceIdeal.τ).loc ReferenceIdeal.main_arg9)
        ∧ r.2.mem ((c.tc : Thread ReferenceIdeal.nD ReferenceIdeal.τ).loc ReferenceIdeal.main_arg10) = m ((c.tc : Thread ReferenceIdeal.nD ReferenceIdeal.τ).loc ReferenceIdeal.main_arg10)
        ∧ r.2.mem ((c.tc : Thread ReferenceIdeal.nD ReferenceIdeal.τ).loc ReferenceIdeal.main_arg11) = m ((c.tc : Thread ReferenceIdeal.nD ReferenceIdeal.τ).loc ReferenceIdeal.main_arg11)
        ∧ r.2.mem ((c.tc : Thread ReferenceIdeal.nD ReferenceIdeal.τ).loc ReferenceIdeal.main_arg12) = m ((c.tc : Thread ReferenceIdeal.nD ReferenceIdeal.τ).loc ReferenceIdeal.main_arg12)
        ∧ r.2.mem ((c.tc : Thread ReferenceIdeal.nD ReferenceIdeal.τ).loc ReferenceIdeal.main_arg13) = m ((c.tc : Thread ReferenceIdeal.nD ReferenceIdeal.τ).loc ReferenceIdeal.main_arg13))
        ∧ r.2.sem = fun _ => 0) :=
  (θ_run ReferenceIdeal.defs _ _).mono
    (fun r h => ⟨fun c => (h c).2, Idealize.ShloMosaic.sem_eq_zero_of_no_sems (by decide) r.2⟩) (VQ.Reference.run m g)

/-- The six results agree. -/
theorem algebraic : algebraic_KernelIdeal_ReferenceIdeal_pre_finite := by
  intro m g m' g' hpre hargs
  have hs : ∀ c, VQ.SameArgs m (launchContents m' c) c := fun c => by
    obtain ⟨h0, h1, h2, h3, h4, h5, h6, h7, h8, h9, h10, h11, h12, h13⟩ := hargs c
    exact ⟨h0, h1, h2, h3, h4, h5, h6, h7, h8, h9, h10, h11, h12, h13⟩
  refine ⟨_, _, _, _, _, _, KernelIdeal.Value.run m g, (θ_run ReferenceIdeal.defs _ _).mono (fun r h c => ?_) (VQ.Reference.run m' g')⟩
  obtain ⟨⟨h0, h1, h2, h3, h4, h5⟩, hrest⟩ := h c
  exact ⟨h0.trans (congrArg₂ addf (VQ.recLoss_agree (hs c) hpre) (VQ.pqLoss_agree (hs c) hpre)),
    h1.trans (VQ.recLoss_agree (hs c) hpre), h2.trans (VQ.pqLoss_agree (hs c) hpre), h3.trans (VQ.codes_agree (hs c) hpre),
    h4.trans (VQ.tokens_agree (hs c) hpre), h5.trans (VQ.recon_agree (hs c) hpre), hrest⟩

theorem claim : Cert.Claim :=
  ⟨Kernel.Gen.facts, KernelIdeal.Gen.facts, ReferenceIdeal.Gen.facts, Pre_finite.Gen.facts,
    fun m g _ => Kernel.Gen.frame m g, fun m g _ => KernelIdeal.Gen.frame m g, fun m g _ => KernelIdeal.Gen.frame m g,
    fun m g _ => frame_reference m g, fun m g _ => frame_reference m g, trivial, algebraic⟩

end Cert.Proof

end
